-- ==== Defs.lean ====
def Pre_Kernel (m : (ℓ : Loc Cert.Kernel.nD Cert.Kernel.τ Cert.Kernel.sig) → Buf (Elt Bits) ℓ) : Prop :=
  True

def Pre_Kernel_apart [hPre_apart : Cert.Pre_apart.Facts] (m : (ℓ : Loc Cert.Kernel.nD Cert.Kernel.τ Cert.Kernel.sig) → Buf (Elt Bits) ℓ) : Prop :=
  ∀ c : Dev Cert.Kernel.nD,
    (Cert.Pre_apart.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel_pre_apart [hKernel : Cert.Kernel.Facts] [hPre_apart : Cert.Pre_apart.Facts] : Prop :=
  ∀ (m : (ℓ : Loc Cert.Kernel.nD Cert.Kernel.τ Cert.Kernel.sig) → Buf (Elt Bits) ℓ) (g : Dev Cert.Kernel.nD → PrngReg), Pre_Kernel_apart m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_apart [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_apart : Cert.Pre_apart.Facts),
    quiescent_Kernel (hKernel := hKernel)
    ∧ quiescent_Kernel_pre_apart (hKernel := hKernel) (hPre_apart := hPre_apart)
    ∧ quiescent_KernelIdeal (hKernelIdeal := hKernelIdeal) (hPre_apart := hPre_apart)
    ∧ quiescent_ReferenceIdeal (hReferenceIdeal := hReferenceIdeal)
    ∧ quiescent_ReferenceIdeal_pre_apart (hReferenceIdeal := hReferenceIdeal) (hPre_apart := hPre_apart)
    ∧ preserves_Kernel_KernelIdeal
    ∧ algebraic_KernelIdeal_ReferenceIdeal (hKernelIdeal := hKernelIdeal) (hReferenceIdeal := hReferenceIdeal) (hPre_apart := hPre_apart)
-- ==== Pre_apart.lean ====
abbrev S4x8192x3 : Shape := ⟨3, ![4, 8192, 3]⟩
abbrev S4x2048x3 : Shape := ⟨3, ![4, 2048, 3]⟩
abbrev S4x128x8192 : Shape := ⟨3, ![4, 128, 8192]⟩
abbrev S4x256x2048 : Shape := ⟨3, ![4, 256, 2048]⟩
abbrev S256x384 : Shape := ⟨2, ![256, 384]⟩
abbrev S256 : Shape := ⟨1, ![256]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x2048 : Shape := ⟨3, ![4, 8192, 2048]⟩
abbrev S4x8192x4 : Shape := ⟨3, ![4, 8192, 4]⟩

class Facts : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  reducesTo_S4x2048x3_S4x2048_d2 : S4x2048x3.ReducesTo [2] S4x2048
  bcast_S4x2048_S4x1x2048_0_2 : S4x2048.BroadcastsInDim S4x1x2048 (![0, 2] : Fin 2 → Fin S4x1x2048.rank)
  bcast_S4x8192x1_S4x8192x2048_0_1_2 : S4x8192x1.BroadcastsInDim S4x8192x2048 (![0, 1, 2] : Fin 3 → Fin S4x8192x2048.rank)
  bcast_S4x1x2048_S4x8192x2048_0_1_2 : S4x1x2048.BroadcastsInDim S4x8192x2048 (![0, 1, 2] : Fin 3 → Fin S4x8192x2048.rank)
  bcast_S_S4x8192x2048 : S_.BroadcastsInDim S4x8192x2048 (![] : Fin 0 → Fin S4x8192x2048.rank)
  sliceFits_S4x8192x2048_S4x8192x4 : S4x8192x2048.Slices (fun _ => 0) S4x8192x4
  slices_S4x8192x4_S4x8192x3_0_0_1 : S4x8192x4.Slices ![0, 0, 1] S4x8192x3
  slices_S4x8192x4_S4x8192x3_0_0_0 : S4x8192x4.Slices ![0, 0, 0] S4x8192x3
  reducesTo_S4x8192x3_S_d0_1_2 : S4x8192x3.ReducesTo [0, 1, 2] S_
  bcast_S_S256 : S_.BroadcastsInDim S256 (![] : Fin 0 → Fin S256.rank)
  reducesTo_S256_S_d0 : S256.ReducesTo [0] S_
  dot_S4x8192x3_S4x2048x3_S4x8192x2048_2_2_1_1_0_0_wf : DotDims.WF S4x8192x3 S4x2048x3 S4x8192x2048 [2] [2] [1] [1] [0] [0]

variable [Facts]

def dot_S4x8192x3_S4x2048x3_S4x8192x2048_2_2_1_1_0_0 : DotDims S4x8192x3 S4x2048x3 S4x8192x2048 where
  lhsContracting := [2]
  rhsContracting := [2]
  lhsNonContracting := [1]
  rhsNonContracting := [1]
  lhsBatch := [0]
  rhsBatch := [0]
  wf := dot_S4x8192x3_S4x2048x3_S4x8192x2048_2_2_1_1_0_0_wf
def fn_part1 {F : FTy → Type} [FloatOps F] (main_arg5 : FVec F S256 .f32) (main_values : FVec F S4x8192x4 .f32) (main_v17 : FVec F S4x8192x3 .f32) : IVec S_ 1 :=
  let main_v18 : FVec F S4x8192x3 .f32 := (extractStridedSlice S4x8192x3 ![0, 0, 0] · slices_S4x8192x4_S4x8192x3_0_0_0) main_values
  let main_v19 : IVec S4x8192x3 1 := cmpf .olt main_v17 main_v18
  let main_c : IVec S_ 1 := constantI S_ 1 1#1
  let main_v20 : IVec S_ 1 := (fun x v => Host.reduce IntOp.andi x v reducesTo_S4x8192x3_S_d0_1_2 h_S_) main_v19 main_c
  let main_v21 : FVec F S256 .f32 := Host.absf main_arg5
  let main_cst_3 : FVec F S_ .f32 := constant S_ .f32 0x7F800000#32
  let main_v22 : FVec F S256 .f32 := broadcastInDim S256 ![] bcast_S_S256 main_cst_3
  let main_v23 : IVec S256 1 := cmpf .olt main_v21 main_v22
  let main_c_4 : IVec S_ 1 := constantI S_ 1 1#1
  let main_v24 : IVec S_ 1 := (fun x v => Host.reduce IntOp.andi x v reducesTo_S256_S_d0 h_S_) main_v23 main_c_4
  let main_v25 : IVec S_ 1 := andi main_v20 main_v24
  main_v25

def fn {F : FTy → Type} [FloatOps F] (main_arg0 : FVec F S4x8192x3 .f32) (main_arg1 : FVec F S4x2048x3 .f32) (main_arg2 : FVec F S4x128x8192 .f32) (main_arg3 : FVec F S4x256x2048 .f32) (main_arg4 : FVec F S256x384 .f32) (main_arg5 : FVec F S256 .f32) (main_arg6 : FVec F S256 .f32) : IVec S_ 1 :=
  let main_v0 : FVec F S4x8192x3 .f32 := mulf main_arg0 main_arg0
  let main_cst : FVec F S_ .f32 := constant S_ .f32 0x00000000#32
  let main_v1 : FVec F S4x8192 .f32 := (fun x v => Host.reduceAdd x v reducesTo_S4x8192x3_S4x8192_d2 h_S_) main_v0 main_cst
  let main_v2 : FVec F S4x8192x1 .f32 := broadcastInDim S4x8192x1 ![0, 1] bcast_S4x8192_S4x8192x1_0_1 main_v1
  let main_v3 : FVec F S4x2048x3 .f32 := mulf main_arg1 main_arg1
  let main_cst_0 : FVec F S_ .f32 := constant S_ .f32 0x00000000#32
  let main_v4 : FVec F S4x2048 .f32 := (fun x v => Host.reduceAdd x v reducesTo_S4x2048x3_S4x2048_d2 h_S_) main_v3 main_cst_0
  let main_v5 : FVec F S4x1x2048 .f32 := broadcastInDim S4x1x2048 ![0, 2] bcast_S4x2048_S4x1x2048_0_2 main_v4
  let main_v6 : FVec F S4x8192x2048 .f32 := broadcastInDim S4x8192x2048 ![0, 1, 2] bcast_S4x8192x1_S4x8192x2048_0_1_2 main_v2
  let main_v7 : FVec F S4x8192x2048 .f32 := broadcastInDim S4x8192x2048 ![0, 1, 2] bcast_S4x1x2048_S4x8192x2048_0_1_2 main_v5
  let main_v8 : FVec F S4x8192x2048 .f32 := addf main_v6 main_v7
  let main_v9 : FVec F S4x8192x2048 .f32 := (fun l r => Host.dotGeneral dot_S4x8192x3_S4x2048x3_S4x8192x2048_2_2_1_1_0_0 none l r) main_arg0 main_arg1
  let main_cst_1 : FVec F S_ .f32 := constant S_ .f32 0x40000000#32
  let main_v10 : FVec F S4x8192x2048 .f32 := broadcastInDim S4x8192x2048 ![] bcast_S_S4x8192x2048 main_cst_1
  let main_v11 : FVec F S4x8192x2048 .f32 := mulf main_v10 main_v9
  let main_v12 : FVec F S4x8192x2048 .f32 := subf main_v8 main_v11
  let main_cst_2 : FVec F S_ .f32 := constant S_ .f32 0x2B8CBCCC#32
  let main_v13 : FVec F S4x8192x2048 .f32 := broadcastInDim S4x8192x2048 ![] bcast_S_S4x8192x2048 main_cst_2
  let main_v14 : FVec F S4x8192x2048 .f32 := maximumf main_v12 main_v13
  let main_v15 : FVec F S4x8192x2048 .f32 := Host.sqrt main_v14
  let main_v16 : FVec F S4x8192x2048 .f32 := Host.negf main_v15
  let main_values : FVec F S4x8192x4 .f32 := (fun x => (Host.topK S4x8192x4 2 (FloatOps.cmpfTotal .gt) x sliceFits_S4x8192x2048_S4x8192x4).1) main_v16
  let main_indices : IVec S4x8192x4 32 := (fun x => (Host.topK S4x8192x4 2 (FloatOps.cmpfTotal .gt) x sliceFits_S4x8192x2048_S4x8192x4).2) main_v16
  let main_v17 : FVec F S4x8192x3 .f32 := (extractStridedSlice S4x8192x3 ![0, 0, 1] · slices_S4x8192x4_S4x8192x3_0_0_1) main_values
  fn_part1 (F := F) main_arg5 main_values main_v17
-- ==== Kernel.lean ====
abbrev S4x8192x3 : Shape := ⟨3, ![4, 8192, 3]⟩
abbrev S4x2048x3 : Shape := ⟨3, ![4, 2048, 3]⟩
abbrev S4x128x8192 : Shape := ⟨3, ![4, 128, 8192]⟩
abbrev S4x256x2048 : Shape := ⟨3, ![4, 256, 2048]⟩
abbrev S256x384 : Shape := ⟨2, ![256, 384]⟩
abbrev S256 : Shape := ⟨1, ![256]⟩
abbrev S_ : Shape := ⟨0, ![]⟩
abbrev S4x8192x8 : Shape := ⟨3, ![4, 8192, 8]⟩
abbrev S4x3x2048 : Shape := ⟨3, ![4, 3, 2048]⟩
abbrev S4x8x2048 : Shape := ⟨3, ![4, 8, 2048]⟩
abbrev S256x256 : Shape := ⟨2, ![256, 256]⟩
abbrev S256x128 : Shape := ⟨2, ![256, 128]⟩
abbrev S4x256x8192 : Shape := ⟨3, ![4, 256, 8192]⟩
abbrev S256x2 : Shape := ⟨2, ![256, 2]⟩
abbrev S1x512x8 : Shape := ⟨3, ![1, 512, 8]⟩
abbrev S1x8x2048 : Shape := ⟨3, ![1, 8, 2048]⟩
abbrev S1x128x512 : Shape := ⟨3, ![1, 128, 512]⟩
abbrev S1x256x2048 : Shape := ⟨3, ![1, 256, 2048]⟩
abbrev S1x256x512 : Shape := ⟨3, ![1, 256, 512]⟩
abbrev S512x8 : Shape := ⟨2, ![512, 8]⟩
abbrev S8x2048 : Shape := ⟨2, ![8, 2048]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩
abbrev S256x2048 : Shape := ⟨2, ![256, 2048]⟩
abbrev S256x512 : Shape := ⟨2, ![256, 512]⟩
abbrev S128x512 : Shape := ⟨2, ![128, 512]⟩
abbrev S256x1 : Shape := ⟨2, ![256, 1]⟩
abbrev S1x256x1024 : Shape := ⟨3, ![1, 256, 1024]⟩
abbrev S256x1024 : Shape := ⟨2, ![256, 1024]⟩

abbrev nBuf : Space → Nat
  | .hbm => 21
  | .vmem => 20
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x128x8192, .f32⟩
  | .hbm, ⟨3, _⟩ => ⟨S4x256x2048, .f32⟩
  | .hbm, ⟨4, _⟩ => ⟨S256x384, .f32⟩
  | .hbm, ⟨5, _⟩ => ⟨S256, .f32⟩
  | .hbm, ⟨6, _⟩ => ⟨S256, .f32⟩
  | .hbm, ⟨7, _⟩ => ⟨S_, .i32⟩
  | .hbm, ⟨8, _⟩ => ⟨S_, .f32⟩
  | .hbm, ⟨9, _⟩ => ⟨S4x8192x8, .f32⟩
  | .hbm, ⟨10, _⟩ => ⟨S4x3x2048, .f32⟩
  | .hbm, ⟨11, _⟩ => ⟨S_, .i32⟩
  | .hbm, ⟨12, _⟩ => ⟨S_, .f32⟩
  | .hbm, ⟨13, _⟩ => ⟨S4x8x2048, .f32⟩
  | .hbm, ⟨14, _⟩ => ⟨S256x256, .f32⟩
  | .hbm, ⟨15, _⟩ => ⟨S256x128, .f32⟩
  | .hbm, ⟨16, _⟩ => ⟨S4x256x8192, .f32⟩
  | .hbm, ⟨17, _⟩ => ⟨S256x2, .f32⟩
  | .hbm, ⟨18, _⟩ => ⟨S256x1, .f32⟩
  | .hbm, ⟨19, _⟩ => ⟨S256x1, .f32⟩
  | .hbm, ⟨20, _⟩ => ⟨S4x256x8192, .f32⟩
  | .local _ .vmem, ⟨0, _⟩ => ⟨S1x512x8, .f32⟩
  | .local _ .vmem, ⟨1, _⟩ => ⟨S1x512x8, .f32⟩
  | .local _ .vmem, ⟨2, _⟩ => ⟨S1x8x2048, .f32⟩
  | .local _ .vmem, ⟨3, _⟩ => ⟨S1x8x2048, .f32⟩
  | .local _ .vmem, ⟨4, _⟩ => ⟨S1x128x512, .f32⟩
  | .local _ .vmem, ⟨5, _⟩ => ⟨S1x128x512, .f32⟩
  | .local _ .vmem, ⟨6, _⟩ => ⟨S1x256x2048, .f32⟩
  | .local _ .vmem, ⟨7, _⟩ => ⟨S1x256x2048, .f32⟩
  | .local _ .vmem, ⟨8, _⟩ => ⟨S256x256, .f32⟩
  | .local _ .vmem, ⟨9, _⟩ => ⟨S256x128, .f32⟩
  | .local _ .vmem, ⟨10, _⟩ => ⟨S1x256x512, .f32⟩
  | .local _ .vmem, ⟨11, _⟩ => ⟨S1x256x512, .f32⟩
  | .local _ .vmem, ⟨12, _⟩ => ⟨S256x2, .f32⟩
  | .local _ .vmem, ⟨13, _⟩ => ⟨S1x256x1024, .f32⟩
  | .local _ .vmem, ⟨14, _⟩ => ⟨S1x256x1024, .f32⟩
  | .local _ .vmem, ⟨15, _⟩ => ⟨S256x2, .f32⟩
  | .local _ .vmem, ⟨16, _⟩ => ⟨S256x1, .f32⟩
  | .local _ .vmem, ⟨17, _⟩ => ⟨S256x1, .f32⟩
  | .local _ .vmem, ⟨18, _⟩ => ⟨S1x256x1024, .f32⟩
  | .local _ .vmem, ⟨19, _⟩ => ⟨S1x256x1024, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S256x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4x8192x3 : Shape := ⟨3, ![4, 8192, 3]⟩
abbrev S4x2048x3 : Shape := ⟨3, ![4, 2048, 3]⟩
abbrev S4x128x8192 : Shape := ⟨3, ![4, 128, 8192]⟩
abbrev S4x256x2048 : Shape := ⟨3, ![4, 256, 2048]⟩
abbrev S256x384 : Shape := ⟨2, ![256, 384]⟩
abbrev S256 : Shape := ⟨1, ![256]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x2048 : Shape := ⟨3, ![4, 8192, 2048]⟩
abbrev S4x2048x256 : Shape := ⟨3, ![4, 2048, 256]⟩
abbrev S4x24576 : Shape := ⟨2, ![4, 24576]⟩
abbrev S4x24576x1 : Shape := ⟨3, ![4, 24576, 1]⟩
abbrev S1 : Shape := ⟨1, ![1]⟩
abbrev S1x1x1 : Shape := ⟨3, ![1, 1, 1]⟩
abbrev S4x24576x256 : Shape := ⟨3, ![4, 24576, 256]⟩
abbrev S4x8192x3x256 : Shape := ⟨4, ![4, 8192, 3, 256]⟩
abbrev S4x8192x3x1 : Shape := ⟨4, ![4, 8192, 3, 1]⟩
abbrev S4x8192x256 : Shape := ⟨3, ![4, 8192, 256]⟩
abbrev S4x256x8192 : Shape := ⟨3, ![4, 256, 8192]⟩
abbrev S4x384x8192 : Shape := ⟨3, ![4, 384, 8192]⟩
abbrev S1x256x1 : Shape := ⟨3, ![1, 256, 1]⟩

abbrev nBuf : Space → Nat
  | .hbm => 124
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x128x8192, .f32⟩
  | .hbm, ⟨3, _⟩ => ⟨S4x256x2048, .f32⟩
  | .hbm, ⟨4, _⟩ => ⟨S256x384, .f32⟩
  | .hbm, ⟨5, _⟩ => ⟨S256, .f32⟩
  | .hbm, ⟨6, _⟩ => ⟨S256, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S4x2048x3, .f32⟩
  | .hbm, ⟨12, _⟩ => ⟨S_, .f32⟩
  | .hbm, ⟨13, _⟩ => ⟨S4x2048, .f32⟩
  | .hbm, ⟨14, _⟩ => ⟨S4x1x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S4x8192x2048, .f32⟩
  | .hbm, ⟨19, _⟩ => ⟨S_, .f32⟩
  | .hbm, ⟨20, _⟩ => ⟨S4x8192x2048, .f32⟩
  | .hbm, ⟨21, _⟩ => ⟨S4x8192x2048, .f32⟩
  | .hbm, ⟨22, _⟩ => ⟨S4x8192x2048, .f32⟩
  | .hbm, ⟨23, _⟩ => ⟨S_, .f32⟩
  | .hbm, ⟨24, _⟩ => ⟨S4x8192x2048, .f32⟩
  | .hbm, ⟨25, _⟩ => ⟨S4x8192x2048, .f32⟩
  | .hbm, ⟨26, _⟩ => ⟨S4x8192x2048, .f32⟩
  | .hbm, ⟨27, _⟩ => ⟨S4x8192x2048, .f32⟩
  | .hbm, ⟨28, _⟩ => ⟨S4x8192x3, .f32⟩
  | .hbm, ⟨29, _⟩ => ⟨S4x8192x3, .i32⟩
  | .hbm, ⟨30, _⟩ => ⟨S4x8192x3, .f32⟩
  | .hbm, ⟨31, _⟩ => ⟨S_, .f32⟩
  | .hbm, ⟨32, _⟩ => ⟨S4x8192x3, .f32⟩
  | .hbm, ⟨33, _⟩ => ⟨S4x8192x3, .f32⟩
  | .hbm, ⟨34, _⟩ => ⟨S_, .f32⟩
  | .hbm, ⟨35, _⟩ => ⟨S4x8192x3, .f32⟩
  | .hbm, ⟨36, _⟩ => ⟨S4x8192x3, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S4x8192x3, .f32⟩
  | .hbm, ⟨41, _⟩ => ⟨S4x8192x3, .f32⟩
  | .hbm, ⟨42, _⟩ => ⟨S4x2048x256, .f32⟩
  | .hbm, ⟨43, _⟩ => ⟨S4x24576, .i32⟩
  | .hbm, ⟨44, _⟩ => ⟨S4x24576x1, .i32⟩
  | .hbm, ⟨45, _⟩ => ⟨S_, .i32⟩
  | .hbm, ⟨46, _⟩ => ⟨S4x24576x1, .i32⟩
  | .hbm, ⟨47, _⟩ => ⟨S4x24576x1, .i1⟩
  | .hbm, ⟨48, _⟩ => ⟨S_, .i32⟩
  | .hbm, ⟨49, _⟩ => ⟨S4x24576x1, .i32⟩
  | .hbm, ⟨50, _⟩ => ⟨S4x24576x1, .i32⟩
  | .hbm, ⟨51, _⟩ => ⟨S4x24576x1, .i32⟩
  | .hbm, ⟨52, _⟩ => ⟨S1, .i32⟩
  | .hbm, ⟨53, _⟩ => ⟨S_, .i32⟩
  | .hbm, ⟨54, _⟩ => ⟨S4x24576x1, .i32⟩
  | .hbm, ⟨55, _⟩ => ⟨S4x24576x1, .i1⟩
  | .hbm, ⟨56, _⟩ => ⟨S1x1x1, .i32⟩
  | .hbm, ⟨57, _⟩ => ⟨S4x24576x1, .i32⟩
  | .hbm, ⟨58, _⟩ => ⟨S4x24576x1, .i1⟩
  | .hbm, ⟨59, _⟩ => ⟨S4x24576x1, .i1⟩
  | .hbm, ⟨60, _⟩ => ⟨S_, .i1⟩
  | .hbm, ⟨61, _⟩ => ⟨S4x24576, .i1⟩
  | .hbm, ⟨62, _⟩ => ⟨S4x24576x256, .f32⟩
  | .hbm, ⟨63, _⟩ => ⟨S4x24576x256, .i1⟩
  | .hbm, ⟨64, _⟩ => ⟨S_, .f32⟩
  | .hbm, ⟨65, _⟩ => ⟨S4x24576x256, .f32⟩
  | .hbm, ⟨66, _⟩ => ⟨S4x24576x256, .f32⟩
  | .hbm, ⟨67, _⟩ => ⟨S4x8192x3x256, .f32⟩
  | .hbm, ⟨68, _⟩ => ⟨S4x8192x3x1, .f32⟩
  | .hbm, ⟨69, _⟩ => ⟨S4x8192x3x256, .f32⟩
  | .hbm, ⟨70, _⟩ => ⟨S4x8192x3x256, .f32⟩
  | .hbm, ⟨71, _⟩ => ⟨S_, .f32⟩
  | .hbm, ⟨72, _⟩ => ⟨S4x8192x256, .f32⟩
  | .hbm, ⟨73, _⟩ => ⟨S4x256x8192, .f32⟩
  | .hbm, ⟨74, _⟩ => ⟨S4x384x8192, .f32⟩
  | .hbm, ⟨75, _⟩ => ⟨S4x8192x256, .f32⟩
  | .hbm, ⟨76, _⟩ => ⟨S4x256x8192, .f32⟩
  | .hbm, ⟨77, _⟩ => ⟨S_, .f32⟩
  | .hbm, ⟨78, _⟩ => ⟨S256, .f32⟩
  | .hbm, ⟨79, _⟩ => ⟨S1x256x1, .f32⟩
  | .hbm, ⟨80, _⟩ => ⟨S_, .f32⟩
  | .hbm, ⟨81, _⟩ => ⟨S1x256x1, .f32⟩
  | .hbm, ⟨82, _⟩ => ⟨S1x256x1, .f32⟩
  | .hbm, ⟨83, _⟩ => ⟨S_, .i32⟩
  | .hbm, ⟨84, _⟩ => ⟨S_, .f32⟩
  | .hbm, ⟨85, _⟩ => ⟨S256, .f32⟩
  | .hbm, ⟨86, _⟩ => ⟨S1x256x1, .f32⟩
  | .hbm, ⟨87, _⟩ => ⟨S_, .f32⟩
  | .hbm, ⟨88, _⟩ => ⟨S1x256x1, .f32⟩
  | .hbm, ⟨89, _⟩ => ⟨S1x256x1, .f32⟩
  | .hbm, ⟨90, _⟩ => ⟨S4x256x8192, .f32⟩
  | .hbm, ⟨91, _⟩ => ⟨S4x256x8192, .f32⟩
  | .hbm, ⟨92, _⟩ => ⟨S4x256x8192, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S256, .f32⟩
  | .hbm, ⟨98, _⟩ => ⟨S1x256x1, .f32⟩
  | .hbm, ⟨99, _⟩ => ⟨S1x256x1, .f32⟩
  | .hbm, ⟨100, _⟩ => ⟨S1x256x1, .f32⟩
  | .hbm, ⟨101, _⟩ => ⟨S_, .f32⟩
  | .hbm, ⟨102, _⟩ => ⟨S_, .i1⟩
  | .hbm, ⟨103, _⟩ => ⟨S_, .f32⟩
  | .hbm, ⟨104, _⟩ => ⟨S_, .f32⟩
  | .hbm, ⟨105, _⟩ => ⟨S1x256x1, .f32⟩
  | .hbm, ⟨106, _⟩ => ⟨S1x256x1, .f32⟩
  | .hbm, ⟨107, _⟩ => ⟨S4x256x8192, .f32⟩
  | .hbm, ⟨108, _⟩ => ⟨S4x256x8192, .f32⟩
  | .hbm, ⟨109, _⟩ => ⟨S_, .f32⟩
  | .hbm, ⟨110, _⟩ => ⟨S1x256x1, .f32⟩
  | .hbm, ⟨111, _⟩ => ⟨S1x256x1, .f32⟩
  | .hbm, ⟨112, _⟩ => ⟨S1x256x1, .f32⟩
  | .hbm, ⟨113, _⟩ => ⟨S4x256x8192, .f32⟩
  | .hbm, ⟨114, _⟩ => ⟨S4x256x8192, .f32⟩
  | .hbm, ⟨115, _⟩ => ⟨S1x256x1, .f32⟩
  | .hbm, ⟨116, _⟩ => ⟨S4x256x8192, .f32⟩
  | .hbm, ⟨117, _⟩ => ⟨S4x256x8192, .f32⟩
  | .hbm, ⟨118, _⟩ => ⟨S1x256x1, .f32⟩
  | .hbm, ⟨119, _⟩ => ⟨S4x256x8192, .f32⟩
  | .hbm, ⟨120, _⟩ => ⟨S4x256x8192, .f32⟩
  | .hbm, ⟨121, _⟩ => ⟨S_, .f32⟩
  | .hbm, ⟨122, _⟩ => ⟨S4x256x8192, .f32⟩
  | .hbm, ⟨123, _⟩ => ⟨S4x256x8192, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_values : Ref sig .tc := ⟨.hbm, 28, rfl⟩
abbrev main_indices : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_c_1 : Ref sig .tc := ⟨.hbm, 52, rfl⟩
abbrev main_call0_c_2 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_c_3 : Ref sig .tc := ⟨.hbm, 60, rfl⟩
abbrev main_call0_v11 : Ref sig .tc := ⟨.hbm, 61, rfl⟩
abbrev main_call0_v12 : Ref sig .tc := ⟨.hbm, 62, rfl⟩
abbrev main_call0_v13 : Ref sig .tc := ⟨.hbm, 63, rfl⟩
abbrev main_call0_cst : Ref sig .tc := ⟨.hbm, 64, rfl⟩
abbrev main_call0_v14 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_6 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_7 : Ref sig .tc := ⟨.hbm, 77, rfl⟩
abbrev main_v39 : Ref sig .tc := ⟨.hbm, 78, rfl⟩
abbrev main_v40 : Ref sig .tc := ⟨.hbm, 79, rfl⟩
abbrev main_cst_8 : Ref sig .tc := ⟨.hbm, 80, rfl⟩
abbrev main_v41 : Ref sig .tc := ⟨.hbm, 81, rfl⟩
abbrev main_v42 : Ref sig .tc := ⟨.hbm, 82, rfl⟩
abbrev main_c : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_v12 : Ref sig .tc := ⟨.hbm, 100, rfl⟩
abbrev main_call1_cst_3 : Ref sig .tc := ⟨.hbm, 101, rfl⟩
abbrev main_call1_v13 : Ref sig .tc := ⟨.hbm, 102, rfl⟩
abbrev main_call1_cst_4 : Ref sig .tc := ⟨.hbm, 103, rfl⟩
abbrev main_call1_call0_v0 : Ref sig .tc := ⟨.hbm, 104, rfl⟩
abbrev main_call1_call0_v1 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_cst_9 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_call2_cst : Ref sig .tc := ⟨.hbm, 121, rfl⟩
abbrev main_call2_v0 : Ref sig .tc := ⟨.hbm, 122, rfl⟩
abbrev main_v57 : Ref sig .tc := ⟨.hbm, 123, rfl⟩

abbrev nD : Nat := 1
abbrev τ : Topo := Topo.v7x

variable {F : FTy → Type} [FloatOps F]
-- ==== Proof.Frames.lean ====
/-
  The frame claims of the three programs: each run ends, nothing faults, the arguments are unchanged and every
  semaphore is at zero. The kernel's two are the generated frames; the reference's is read from its run.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_apart
public import Idealize.ShloMosaic.Lib.Quiescent

@[expose] public section

noncomputable section

namespace Cert.Proof

open Idealize.ShloMosaic Idealize.SL.Sem

theorem frame_kernel : Cert.quiescent_Kernel := fun m ρ _ => Cert.Kernel.Gen.frame m ρ

theorem frame_kernel_apart : Cert.quiescent_Kernel_pre_apart := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem frame_reference_apart : Cert.quiescent_ReferenceIdeal_pre_apart := fun m ρ _ =>
  (θ_run Cert.ReferenceIdeal.defs _ _).mono
    (fun r h => ⟨fun c => (h c).2, sem_eq_zero_of_no_sems (by decide) r.2⟩) (Cert.ReferenceIdeal.Value.run m ρ)

end Cert.Proof

end
-- ==== Proof.KernelRun.lean ====
/-
  The run of the idealized kernel, with the contents of its result: what the second region's write-backs leave.
  The launch is the frame's, read once more at the result's array.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of @main ends with the result's array as the second region leaves it, and with the arguments as launched. -/
theorem run_result : θ_run defs (onTc (τ := τ) (main (F := F))) ⟨m, fun _ => 0, ρ⟩ (fun r => ∀ c : Dev nD,
      r.2.mem ((c.tc : Thread nD τ).loc main_v8) = (dat1 (V7 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v8 (by decide))).trans (W8_arr m ρ c 4),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Gen

end
-- ==== Proof.Host.lean ====
/-
  The host operations around the two regions, read at an element: the padded points, the two parts of the weights, and
  the columns of scale and shift.
-/
module

public import proofs.«01_k».proof.Proof.Gen.KernelIdeal.Frame
public import Idealize.ShloMosaic.PureOps.Ideal.Laws
public import Idealize.ShloMosaic.Lib.Pointwise
public import Idealize.ShloMosaic.Lib.StableHlo.ReadAt
public import Idealize.ShloMosaic.Lib.KernelVsHost

@[expose] public section

set_option maxRecDepth 16384

noncomputable section

namespace Cert.Proof

open Idealize.ShloMosaic Cert.KernelIdeal Cert.KernelIdeal.Gen Idealize.ShloMosaic.TcCoe

variable (m : (ℓ : Loc nD τ sig) → Buf (Elt Ideal) ℓ) (ρ : Dev nD → PrngReg) (c : Dev nD)

theorem entry_x1 (b : Fin 4) (n : Fin 8192) (k : Fin 8) : V5 m ρ c main_v0 (ix3 b n k)
    = if h : k.val < 3 then m ((c : Thread nD τ).loc main_arg0) (ix3 b n ⟨k.val, h⟩) else (0 : EReal) := by
  show StableHlo.after hostOps0_4 _ _ _ = _
  after_reads_at
  rw [show (FloatOps.sitofp FTy.f32 0#32 : Ideal .f32) = (0 : EReal) from sitofp_zero]

theorem entry_x2 (b : Fin 4) (k : Fin 8) (j : Fin 2048) : V5 m ρ c main_v2 (ix3 b k j)
    = if h : k.val < 3 then m ((c : Thread nD τ).loc main_arg1) (ix3 b j ⟨k.val, h⟩) else (0 : EReal) := by
  show StableHlo.after hostOps0_4 _ _ _ = _
  after_reads_at
  rw [show (FloatOps.sitofp FTy.f32 0#32 : Ideal .f32) = (0 : EReal) from sitofp_zero]

theorem entry_wa (o i : Fin 256) : V5 m ρ c main_v3 (ix2 o i) = m ((c : Thread nD τ).loc main_arg4) (ix2 o (i.castAdd 128)) := by
  show StableHlo.after hostOps0_4 _ _ _ = _
  after_reads_at
  rfl

theorem entry_wb (o : Fin 256) (i : Fin 128) : V5 m ρ c main_v4 (ix2 o i) = m ((c : Thread nD τ).loc main_arg4) (ix2 o (i.natAdd 256)) := by
  show StableHlo.after hostOps0_4 _ _ _ = _
  after_reads_at
  rfl

/-- The columns of scale and shift at the second region's entry. -/
theorem entry_scale (o : Fin 256) : V7 m ρ c main_v6 (ix2 o 0) = m ((c : Thread nD τ).loc main_arg5) (ix1 o) := by
  refine Eq.trans (b := W6 m ρ c main_arg5 (ix1 o)) ?_ (congrFun (W6_args m ρ c main_arg5 (by decide)) _)
  show StableHlo.after hostOps1 _ _ _ = _
  after_reads_at

theorem entry_shift (o : Fin 256) : V7 m ρ c main_v7 (ix2 o 0) = m ((c : Thread nD τ).loc main_arg6) (ix1 o) := by
  refine Eq.trans (b := W6 m ρ c main_arg6 (ix1 o)) ?_ (congrFun (W6_args m ρ c main_arg6 (by decide)) _)
  show StableHlo.after hostOps1 _ _ _ = _
  after_reads_at

end Cert.Proof

end
-- ==== Proof.Nearest.lean ====
/-
  Choosing the three nearest, on one row. The reference sorts the negated distances `-√(max(D j, c))` and takes the
  first three positions; the kernel takes the least of `D` three times, covering the places already taken with `⊤`.
  Where the four greatest negated distances are strictly decreasing, both choose the same places in the same order.
-/
module

public import Idealize.ShloMosaic.PureOps.Ideal
public import Idealize.ShloMosaic.PureOps.Ideal.Laws
public import Idealize.ShloMosaic.Lib.SortFacts
public import Idealize.ShloMosaic.Lib.Pointwise

@[expose] public section

noncomputable section

namespace Cert.Proof

open Idealize.ShloMosaic

/-! ## The order of the sort -/

/-- The position of the `k`-th greatest of `g` (counting from 0, equal elements in index order). -/
def ranked {n : ℕ} (g : Fin n → EReal) : Fin n → Fin n := sortedFrom fun k k' => decide (g k' < g k)

theorem ranked_injective {n : ℕ} (g : Fin n → EReal) : Function.Injective (ranked g) := sortedFrom_injective _

theorem ranked_surjective {n : ℕ} (g : Fin n → EReal) : Function.Surjective (ranked g) := sortedFrom_surjective _

/-- A later position holds no greater element. -/
theorem ranked_antitone {n : ℕ} (g : Fin n → EReal) {i j : Fin n} (h : i < j) : g (ranked g j) ≤ g (ranked g i) := by
  have := sortedFrom_noInversion (fun k k' : Fin n => decide (g k' < g k)) (fun k k' => decide (g k' < g k))
    (fun a b hab => by simp only [decide_eq_true_eq, decide_eq_false_iff_not, not_lt] at hab ⊢; exact hab.le)
    (fun _ _ h => h)
    (fun a b c hab hbc => by
      simp only [decide_eq_false_iff_not, not_lt] at hab hbc ⊢; exact hab.trans hbc) i j h
  exact not_lt.mp (of_decide_eq_false this)

/-- The printed comparison "greater" as a test. -/
theorem cmpfTotal_gt_beq (a b : Ideal .f32) : (FloatOps.cmpfTotal .gt a b == 1#1) = decide ((b : EReal) < a) := by
  rw [Ideal.cmpfTotal_def]
  show (BitVec.ofBool (decide ((b : EReal) < a)) == 1#1) = _
  cases decide ((b : EReal) < a) <;> rfl

/-- The rows of a `[A, B, n]` array that `top_k` sorts along its last axis: both results at rank `k`. -/
theorem topK_apply {A B n K : ℕ} (x : FVec Ideal ⟨3, ![A, B, n]⟩ .f32)
    (h : (⟨3, ![A, B, n]⟩ : Shape).Slices (fun _ => 0) ⟨3, ![A, B, K]⟩) (hK : K ≤ n) (a : Fin A) (b : Fin B) (k : Fin K) :
    (Host.topK ⟨3, ![A, B, K]⟩ 2 (FloatOps.cmpfTotal .gt) x h).1 (ix3 a b k)
        = x (ix3 a b (ranked (fun j => x (ix3 a b j)) (k.castLE hK)))
      ∧ (Host.topK ⟨3, ![A, B, K]⟩ 2 (FloatOps.cmpfTotal .gt) x h).2 (ix3 a b k)
        = BitVec.ofNat 32 (ranked (fun j => x (ix3 a b j)) (k.castLE hK)).val := by
  have hd : 2 < (⟨3, ![A, B, n]⟩ : Shape).rank := by show 2 < 3; decide
  have hj : (fun c : Fin 3 => (⟨0 + (ix3 a b k (c.cast h.1.symm)).val,
      Nat.lt_of_lt_of_le (Nat.add_lt_add_left (ix3 a b k _).isLt _) (h.2 c)⟩ : Fin ((⟨3, ![A, B, n]⟩ : Shape).size c)))
        = ix3 a b (k.castLE hK) := by
    funext c
    fin_cases c <;> (apply Fin.ext; simp [ix3])
  have hal : ∀ q : Fin n, (ix3 a b (k.castLE hK) : (⟨3, ![A, B, n]⟩ : Shape).Idx).along ⟨2, hd⟩ q = ix3 a b q := by
    intro q
    funext c
    unfold Shape.Idx.along
    fin_cases c <;> rfl
  have hr : (fun q q' : Fin n => FloatOps.cmpfTotal .gt
        (x ((ix3 a b (k.castLE hK) : (⟨3, ![A, B, n]⟩ : Shape).Idx).along ⟨2, hd⟩ q) : Ideal .f32)
        (x ((ix3 a b (k.castLE hK) : (⟨3, ![A, B, n]⟩ : Shape).Idx).along ⟨2, hd⟩ q')) == 1#1)
        = fun q q' => decide ((x (ix3 a b q') : EReal) < x (ix3 a b q)) := by
    funext q q'
    rw [cmpfTotal_gt_beq, hal, hal]
  have hk : ∀ hlt, (⟨0 + (ix3 a b k (Fin.cast h.1.symm ⟨2, hd⟩)).val, hlt⟩ : Fin n) = k.castLE hK := by
    intro hlt
    apply Fin.ext
    show 0 + k.val = k.val
    omega
  unfold Host.topK Host.sort2 extractStridedSlice
  simp only [dif_pos hd]
  refine ⟨?_, ?_⟩
  · rw [hj]
    erw [hr, hk, hal]
    rfl
  · rw [hj]
    erw [hr, hk, hal]
    rfl

/-! ## Three rounds of the least -/

/-- A row with one place covered by `⊤`. -/
def cover {n : ℕ} (D : Fin n → EReal) (i : Fin n) : Fin n → EReal := fun j => if j = i then ⊤ else D j

/-- The negated clamped distance of a squared distance. -/
def negDist (c d : EReal) : EReal := -Ideal.sqrt (max d c)

/-- The square root is monotone on the extended reals. -/
theorem sqrt_mono {x y : EReal} (h : x ≤ y) : Ideal.sqrt x ≤ Ideal.sqrt y := by
  induction y with
  | top => exact le_top
  | bot => rw [le_bot_iff.mp h]
  | coe r =>
    induction x with
    | top => exact absurd h (by simp)
    | bot => exact bot_le
    | coe q =>
      have hq : q ≤ r := by exact_mod_cast h
      show (if q < 0 then (⊥ : EReal) else _) ≤ (if r < 0 then (⊥ : EReal) else _)
      by_cases h0 : q < 0
      · rw [if_pos h0]; exact bot_le
      · rw [if_neg h0, if_neg (not_lt.mpr ((not_lt.mp h0).trans hq))]
        exact_mod_cast Real.sqrt_le_sqrt hq

/-- A strictly greater negated distance is a strictly smaller squared distance. -/
theorem lt_of_negDist_lt {c d d' : EReal} (h : negDist c d' < negDist c d) : d < d' := by
  unfold negDist at h
  by_contra hn
  exact absurd h (not_lt.mpr (EReal.neg_le_neg_iff.mpr (sqrt_mono (max_le_max_right c (not_lt.mp hn)))))

/-- The four greatest negated distances strictly decrease. -/
def Apart {n : ℕ} (c : EReal) (D : Fin n → EReal) (hn : 4 ≤ n) : Prop :=
  ∀ k : Fin 3, negDist c (D (ranked (fun j => negDist c (D j)) (k.succ.castLE hn)))
    < negDist c (D (ranked (fun j => negDist c (D j)) (k.castSucc.castLE hn)))

section rounds

variable {n : ℕ} (c : EReal) (D : Fin n → EReal) (hn : 4 ≤ n)

/-- The `k`-th nearest place of the row. -/
def nth (k : Fin 4) : Fin n := ranked (fun j => negDist c (D j)) (k.castLE hn)

theorem nth_ne {k k' : Fin 4} (h : k ≠ k') : nth c D hn k ≠ nth c D hn k' := fun e =>
  h (Fin.castLE_injective hn (ranked_injective _ e))

variable {c D hn}

/-- Each of the three nearest is strictly nearer than every place that ranks after it. -/
theorem Apart.lt (h : Apart c D hn) (k : Fin 3) {i : Fin n} (hi : k.castSucc.castLE hn < i) :
    D (nth c D hn k.castSucc) < D (ranked (fun j => negDist c (D j)) i) := by
  refine lt_of_negDist_lt (c := c) (lt_of_le_of_lt ?_ (h k))
  have hle : k.succ.castLE hn ≤ i := by
    rw [Fin.lt_def] at hi
    rw [Fin.le_def]
    simpa using hi
  rcases hle.eq_or_lt with rfl | hlt
  · exact le_rfl
  · exact ranked_antitone (fun j => negDist c (D j)) hlt

/-- A place that is none of the first `k + 1` ranks after the `k`-th. -/
theorem Apart.lt_of_ne (h : Apart c D hn) (k : Fin 3) (j : Fin n) (hj : ∀ k' : Fin 4, k' ≤ k.castSucc → j ≠ nth c D hn k') :
    D (nth c D hn k.castSucc) < D j := by
  obtain ⟨i, rfl⟩ := ranked_surjective (fun j => negDist c (D j)) j
  refine h.lt k ?_
  by_contra hc
  rw [Fin.lt_def, not_lt] at hc
  have hc' : i.val ≤ k.val := by simpa using hc
  have hk := k.isLt
  refine hj ⟨i.val, by omega⟩ (by rw [Fin.le_def]; simpa using hc) ?_
  unfold nth
  rfl

/-- None of the three nearest is at distance `⊤`. -/
theorem Apart.lt_top (h : Apart c D hn) (k : Fin 3) : D (nth c D hn k.castSucc) < ⊤ :=
  lt_of_lt_of_le (h.lt (i := k.succ.castLE hn) k (by rw [Fin.lt_def]; simp)) le_top

/-- First round: the nearest place holds the one least entry. -/
theorem Apart.first (h : Apart c D hn) (j : Fin n) (hj : j ≠ nth c D hn 0) : D (nth c D hn 0) < D j :=
  h.lt_of_ne 0 j fun k' hk' => by
    have : k' = 0 := by apply Fin.ext; rw [Fin.le_def] at hk'; simpa using hk'
    rw [this]; exact hj

/-- Second round: with the nearest covered, the second nearest holds the one least entry. -/
theorem Apart.second (h : Apart c D hn) (j : Fin n) (hj : j ≠ nth c D hn 1) :
    cover D (nth c D hn 0) (nth c D hn 1) < cover D (nth c D hn 0) j := by
  have h10 : nth c D hn 1 ≠ nth c D hn 0 := nth_ne c D hn (by decide)
  unfold cover
  rw [if_neg h10]
  split
  · exact h.lt_top 1
  · rename_i h0
    refine h.lt_of_ne 1 j fun k' hk' => ?_
    have : k' = 0 ∨ k' = 1 := by
      revert hk'; revert k'; decide
    rcases this with rfl | rfl
    · exact h0
    · exact hj

/-- Third round: with the two nearest covered, the third nearest holds the one least entry. -/
theorem Apart.third (h : Apart c D hn) (j : Fin n) (hj : j ≠ nth c D hn 2) :
    cover (cover D (nth c D hn 0)) (nth c D hn 1) (nth c D hn 2) < cover (cover D (nth c D hn 0)) (nth c D hn 1) j := by
  have h20 : nth c D hn 2 ≠ nth c D hn 0 := nth_ne c D hn (by decide)
  have h21 : nth c D hn 2 ≠ nth c D hn 1 := nth_ne c D hn (by decide)
  unfold cover
  rw [if_neg h21, if_neg h20]
  split
  · exact h.lt_top 2
  · rename_i h1
    split
    · exact h.lt_top 2
    · rename_i h0
      refine h.lt_of_ne 2 j fun k' hk' => ?_
      have : k' = 0 ∨ k' = 1 ∨ k' = 2 := by
        revert hk'; revert k'; decide
      rcases this with rfl | rfl | rfl
      · exact h0
      · exact h1
      · exact hj

end rounds

/-! ## The least of a row, and where it is -/

/-- The fold of `min` from `⊤` is the one least entry. -/
theorem fold_min_eq {n : ℕ} (f : Fin n → EReal) (i : Fin n) (h : ∀ j, j ≠ i → f i < f j) :
    Finset.univ.fold min ⊤ f = f i := by
  refine le_antisymm ((Finset.fold_min_le _).mpr (.inr ⟨i, Finset.mem_univ i, le_rfl⟩)) ?_
  refine (Finset.le_fold_min _).mpr ⟨le_top, fun j _ => ?_⟩
  by_cases hj : j = i
  · rw [hj]
  · exact (h j hj).le

/-- `reduce_index` for the least along the second axis of a `[R, n]` array answers the one place of the least entry. -/
theorem argMin_eq {R n : ℕ} (x : FVec Ideal ⟨2, ![R, n]⟩ .f32)
    (h : (⟨2, ![R, n]⟩ : Shape).Reduces [1] ⟨1, ![R]⟩) (r : Fin R) (i : Fin n)
    (hi : ∀ j, j ≠ i → (x (ix2 r i) : EReal) < x (ix2 r j))
    (hdrop : ∀ (q : Fin R) (j : Fin n), h.drop (ix2 q j) = ix1 q) :
    Ideal.reduceIndex .argMin 1 h x (ix1 r) = BitVec.ofNat 32 i.val := by
  classical
  have hmem : ∀ y : (⟨2, ![R, n]⟩ : Shape).Idx, h.drop y = ix1 r ↔ ∃ j : Fin n, y = ix2 r j := by
    intro y
    obtain ⟨q, j, rfl⟩ : ∃ (q : Fin R) (j : Fin n), y = ix2 q j := ⟨y 0, y 1, eq_ix2 y⟩
    rw [hdrop]
    constructor
    · intro e
      have : q = r := congrFun e 0
      exact ⟨j, by rw [this]⟩
    · rintro ⟨j', e⟩
      have : q = r := congrFun e 0
      rw [this]
  unfold Ideal.reduceIndex
  have hset : (Finset.univ.filter fun y : (⟨2, ![R, n]⟩ : Shape).Idx => h.drop y = ix1 r).filter
      (fun y => ∀ y' ∈ Finset.univ.filter (fun y : (⟨2, ![R, n]⟩ : Shape).Idx => h.drop y = ix1 r), ¬ (x y' : EReal) < x y)
        = {ix2 r i} := by
    ext y
    simp only [Finset.mem_filter, Finset.mem_univ, true_and, Finset.mem_singleton, hmem]
    constructor
    · rintro ⟨⟨j, rfl⟩, hj⟩
      by_contra hne
      exact hj (ix2 r i) ⟨i, rfl⟩ (hi j fun e => hne (by rw [e]))
    · rintro rfl
      refine ⟨⟨i, rfl⟩, ?_⟩
      rintro _ ⟨j, rfl⟩
      by_cases e : j = i
      · rw [e]; exact lt_irrefl _
      · exact not_lt.mpr (hi j e).le
  have key : ∀ S : Finset (⟨2, ![R, n]⟩ : Shape).Idx, S = {ix2 r i} →
      BitVec.ofNat 32 ((S.image fun y => (y 1).val).min.getD 0) = BitVec.ofNat 32 i.val := by
    rintro _ rfl
    rw [Finset.image_singleton, Finset.min_singleton]
    rfl
  refine key _ ?_
  rw [← hset]
  ext y
  simp

end Cert.Proof

end
-- ==== Proof.Row.lean ====
/-
  One query point: its squared distances to the points, the three inverse-distance weights, and the features they
  interpolate. Both programs' values are stated by these definitions.
-/
module

public import proofs.«01_k».proof.Proof.Nearest

@[expose] public section

noncomputable section

namespace Cert.Proof

open Idealize.ShloMosaic

/-- There are at least four points. -/
theorem four_le : 4 ≤ 2048 := by decide

/-- The clamp under the square root. -/
def clampBits : EReal := Ideal.ofBits .f32 0x2B8CBCCC#32
/-- The term added to a distance before it is inverted. -/
def distEps : EReal := Ideal.ofBits .f32 0x322BCC77#32

/-- The squared distance as both programs spell it. -/
def sqDist (a b : Fin 3 → EReal) : EReal :=
  ((∑ k, a k * a k) + ∑ k, b k * b k) - Ideal.ofBits .f32 0x40000000#32 * ∑ k, a k * b k

/-- The inverse distance of a squared distance. -/
def invDist (d : EReal) : EReal :=
  Ideal.div 1 (Ideal.sqrt (max d clampBits) + distEps)

section row

variable {n : ℕ} (D : Fin n → EReal) (hn : 4 ≤ n)

/-- The `k`-th of the three nearest places. -/
def near (k : Fin 3) : Fin n := nth clampBits D hn k.castSucc

/-- Its inverse distance over the sum of the three. -/
def share (k : Fin 3) : EReal := Ideal.div (invDist (D (near D hn k))) (∑ k', invDist (D (near D hn k')))

/-- The shares as one row over the places, zero away from the three nearest. -/
def spread (j : Fin n) : EReal :=
  ((if j = near D hn 0 then share D hn 0 else 0) + (if j = near D hn 1 then share D hn 1 else 0))
    + (if j = near D hn 2 then share D hn 2 else 0)

/-- The feature interpolated from the three nearest places. -/
def interp (f : Fin n → EReal) : EReal := ∑ k, f (near D hn k) * share D hn k

theorem near_ne {k k' : Fin 3} (h : k ≠ k') : near D hn k ≠ near D hn k' :=
  nth_ne _ D hn fun e => h (Fin.castSucc_injective _ e)

theorem spread_near (k : Fin 3) : spread D hn (near D hn k) = share D hn k := by
  unfold spread
  fin_cases k <;>
    simp [near_ne D hn (show (0 : Fin 3) ≠ 1 by decide), near_ne D hn (show (0 : Fin 3) ≠ 2 by decide),
      near_ne D hn (show (1 : Fin 3) ≠ 0 by decide), near_ne D hn (show (1 : Fin 3) ≠ 2 by decide),
      near_ne D hn (show (2 : Fin 3) ≠ 0 by decide), near_ne D hn (show (2 : Fin 3) ≠ 1 by decide)]

theorem spread_of_ne (j : Fin n) (h : ∀ k, near D hn k ≠ j) : spread D hn j = 0 := by
  unfold spread
  rw [if_neg fun e => h 0 e.symm, if_neg fun e => h 1 e.symm, if_neg fun e => h 2 e.symm]
  simp

/-- The sum over all places against the spread row is the sum over the three nearest. -/
theorem sum_mul_spread (f : Fin n → EReal) : ∑ j, f j * spread D hn j = interp D hn f := by
  unfold interp
  have hinj : Function.Injective (near D hn) := fun a b e => by
    by_contra hne; exact near_ne D hn hne e
  rw [← Finset.sum_subset (Finset.subset_univ (Finset.univ.map ⟨near D hn, hinj⟩)), Finset.sum_map]
  · exact Finset.sum_congr rfl fun k _ => by
      show f (near D hn k) * spread D hn (near D hn k) = _
      rw [spread_near]
  · intro j _ hj
    rw [spread_of_ne D hn j fun k e => hj (Finset.mem_map.mpr ⟨k, Finset.mem_univ k, e⟩), mul_zero]

end row

end Cert.Proof

end
-- ==== Proof.Select.lean ====
/-
  The kernel's three rounds on a block of rows, read at one row: each round's place, its inverse distance and the row
  with the places found so far covered.
-/
module

public import proofs.«01_k».proof.Proof.Row
public import proofs.«01_k».proof.Proof.Gen.KernelIdeal.Skeleton

@[expose] public section

set_option maxRecDepth 16384

noncomputable section

namespace Cert.Proof

open Idealize.ShloMosaic Cert.KernelIdeal Cert.KernelIdeal.Gen

/-- The column numbers of the block. -/
abbrev columns : IVec S512x2048 32 := iota .tc S512x2048 32 [1] iota_S512x2048_d1_w32

/-- A row of a block. -/
abbrev row (x : FVec Ideal S512x2048 .f32) (q : Fin 512) : Fin 2048 → EReal := fun j => x (ix2 q j)

/-- The pattern the covered places take is `⊤`. -/
theorem inf_bits : Ideal.ofBits .f32 0x7F800000#32 = ⊤ := by
  simp [Ideal.ofBits, Ideal.ieee]

/-- Two column numbers agree as words exactly when they agree. -/
theorem word_eq_iff (j p : Fin 2048) : IntOp.cmpi .eq (BitVec.ofNat 32 j.val) (BitVec.ofNat 32 p.val) = BitVec.ofBool (decide (j = p)) := by
  show BitVec.ofBool (BitVec.ofNat 32 j.val == BitVec.ofNat 32 p.val) = _
  congr 1
  have hj := j.isLt; have hp := p.isLt
  rw [Bool.eq_iff_iff]
  simp only [beq_iff_eq, decide_eq_true_eq, Fin.ext_iff]
  constructor
  · intro e
    have := congrArg BitVec.toNat e
    rw [BitVec.toNat_ofNat, BitVec.toNat_ofNat] at this
    omega
  · intro e; rw [e]

/-- The mask of one place in each row. -/
theorem mask_apply (idx : IVec S512x1 32) (q : Fin 512) (p j : Fin 2048) (h : idx (ix2 q 0) = BitVec.ofNat 32 p.val) :
    cmpi .eq columns (broadcastTo S512x2048 idx broadcasts_S512x1_S512x2048) (ix2 q j) = BitVec.ofBool (decide (j = p)) := by
  pointwise [columns]
  rw [h]
  exact word_eq_iff j p

/-- Covering one place of each row with `⊤`. -/
theorem cover_apply (idx : IVec S512x1 32) (x : FVec Ideal S512x2048 .f32) (q : Fin 512) (p : Fin 2048)
    (h : idx (ix2 q 0) = BitVec.ofNat 32 p.val) :
    row (select (cmpi .eq columns (broadcastTo S512x2048 idx broadcasts_S512x1_S512x2048))
      (broadcast S512x2048 (Scalar.ofBits .f32 0x7F800000#32 : Ideal .f32)) x) q = cover (row x q) p := by
  funext j
  have ht : (Scalar.ofBits .f32 0x7F800000#32 : Ideal .f32) = (⊤ : EReal) := inf_bits
  show (if cmpi .eq columns (broadcastTo S512x2048 idx broadcasts_S512x1_S512x2048) (ix2 q j) = 1#1 then _ else _) = _
  rw [mask_apply idx q p j h]
  unfold cover
  by_cases e : j = p
  · simp only [e, decide_true, BitVec.ofBool_true, if_true]; exact ht
  · simp [e]

/-- The place of the least of a row, as the block's column of indices. -/
theorem place_apply (x : FVec Ideal S512x2048 .f32) (q : Fin 512) (p : Fin 2048) (h : ∀ j, j ≠ p → row x q p < row x q j) :
    shapeCast S512x1 (reduceIndex .argMin 1 S512 x reduces_S512x2048_S512) shapeCasts_S512_S512x1 (ix2 q 0) = BitVec.ofNat 32 p.val := by
  pointwise
  exact argMin_eq x reduces_S512x2048_S512 q p h fun q' j => by funext a; fin_cases a; rfl

/-- The least of a row whose one least entry is at `p`. -/
theorem least_apply (x : FVec Ideal S512x2048 .f32) (q : Fin 512) (p : Fin 2048) (h : ∀ j, j ≠ p → row x q p < row x q j) :
    multiReduction .minimumf [1] S512 x 0x7F800000#32 reduces_S512x2048_S512 (.inl rfl) rfl (ix1 q) = row x q p := by
  have e : multiReduction .minimumf [1] S512 x 0x7F800000#32 reduces_S512x2048_S512 (.inl rfl) rfl (ix1 q)
      = Finset.univ.fold min (Ideal.ofBits .f32 0x7F800000#32) (row x q) := by
    pointwise
  rw [e, inf_bits]
  exact fold_min_eq _ p h

/-- The inverse distances of a column of squared distances, as the kernel spells them. -/
def invColumn (y : FVec Ideal S512 .f32) : FVec Ideal S512x1 .f32 :=
  divf (broadcast S512x1 (Scalar.ofBits .f32 0x3F800000#32 : Ideal .f32))
    (addf (sqrt (maximumf (shapeCast S512x1 y shapeCasts_S512_S512x1) (broadcast S512x1 (Scalar.ofBits .f32 0x2B8CBCCC#32 : Ideal .f32))))
      (broadcast S512x1 (Scalar.ofBits .f32 0x322BCC77#32 : Ideal .f32)))

theorem invColumn_apply (y : FVec Ideal S512 .f32) (q : Fin 512) : invColumn y (ix2 q 0) = invDist (y (ix1 q)) := by
  pointwise [invColumn]
  rfl

/-- The inverse distance of the least of a row. -/
theorem invDist_apply (x : FVec Ideal S512x2048 .f32) (q : Fin 512) (p : Fin 2048) (h : ∀ j, j ≠ p → row x q p < row x q j) :
    k0_pay6 x (ix2 q 0) = invDist (row x q p) := by
  rw [← least_apply x q p h]
  exact invColumn_apply _ q

/-! ## The rounds -/

section rounds

variable (x0 : Vec Ideal S1x512x8 .f32) (x1 : Vec Ideal S1x8x2048 .f32) (q : Fin 512)

/-- The squared distances of a row of the block. -/
abbrev dist : Fin 2048 → EReal := row (k0_pay1 x0 x1) q

/-- The first round's covered row. -/
abbrev once : FVec Ideal S512x2048 .f32 := k0_pay4 x0 x1
/-- The second round's covered row. -/
abbrev twice : FVec Ideal S512x2048 .f32 := k0_pay7 columns (k0_pay4 x0 x1)

variable {x0 x1 q} (h : Apart clampBits (dist x0 x1 q) four_le)

include h

theorem place0 : k0_pay2 x0 x1 (ix2 q 0) = BitVec.ofNat 32 (near (dist x0 x1 q) four_le 0).val :=
  place_apply (k0_pay1 x0 x1) q _ h.first

theorem inv0 : k0_pay3 x0 x1 (ix2 q 0) = invDist (dist x0 x1 q (near (dist x0 x1 q) four_le 0)) :=
  invDist_apply (k0_pay1 x0 x1) q _ h.first

theorem row_once : row (once x0 x1) q = cover (dist x0 x1 q) (near (dist x0 x1 q) four_le 0) :=
  cover_apply _ (k0_pay1 x0 x1) q _ (place0 h)

theorem least_once (j : Fin 2048) (hj : j ≠ near (dist x0 x1 q) four_le 1) :
    row (once x0 x1) q (near (dist x0 x1 q) four_le 1) < row (once x0 x1) q j := by
  rw [row_once h]; exact h.second j hj

theorem place1 : k0_pay5 (once x0 x1) (ix2 q 0) = BitVec.ofNat 32 (near (dist x0 x1 q) four_le 1).val :=
  place_apply (once x0 x1) q _ (least_once h)

theorem inv1 : k0_pay6 (once x0 x1) (ix2 q 0) = invDist (dist x0 x1 q (near (dist x0 x1 q) four_le 1)) := by
  rw [invDist_apply (once x0 x1) q _ (least_once h), row_once h]
  unfold cover
  rw [if_neg (near_ne _ _ (by decide))]

theorem row_twice : row (twice x0 x1) q
    = cover (cover (dist x0 x1 q) (near (dist x0 x1 q) four_le 0)) (near (dist x0 x1 q) four_le 1) := by
  rw [← row_once h]
  exact cover_apply _ (once x0 x1) q _ (place1 h)

theorem least_twice (j : Fin 2048) (hj : j ≠ near (dist x0 x1 q) four_le 2) :
    row (twice x0 x1) q (near (dist x0 x1 q) four_le 2) < row (twice x0 x1) q j := by
  rw [row_twice h]; exact h.third j hj

theorem inv2 : k0_pay8 columns (once x0 x1) (ix2 q 0) = invDist (dist x0 x1 q (near (dist x0 x1 q) four_le 2)) := by
  refine (invDist_apply (twice x0 x1) q _ (least_twice h)).trans ?_
  rw [row_twice h]
  unfold cover
  rw [if_neg (near_ne _ _ (by decide)), if_neg (near_ne _ _ (by decide))]

theorem place2 (j : Fin 2048) :
    k0_pay11 columns (once x0 x1) (ix2 q j) = BitVec.ofBool (decide (j = near (dist x0 x1 q) four_le 2)) :=
  mask_apply _ q _ j (place_apply (twice x0 x1) q _ (least_twice h))

end rounds

end Cert.Proof

end
-- ==== Proof.Block.lean ====
/-
  What the first region's body computes on a block: the convolution of the interpolated and the given features of each
  of the 512 query points, and its two sums.
-/
module

public import proofs.«01_k».proof.Proof.Select

@[expose] public section

set_option maxRecDepth 16384

noncomputable section

namespace Cert.Proof

open Idealize.ShloMosaic Cert.KernelIdeal Cert.KernelIdeal.Gen

/-- The zero a place outside the mask takes. -/
abbrev zeroWord : Ideal .f32 := Scalar.ofBits .f32 0x00000000#32

/-- A column spread over one place of each row, as the kernel spells it. -/
def atPlace (mask : IVec S512x2048 1) (w : FVec Ideal S512x1 .f32) : FVec Ideal S512x2048 .f32 :=
  select mask (broadcastTo S512x2048 (shapeCast S512x1 w shapeCasts_S512x1_S512x1) broadcasts_S512x1_S512x2048)
    (broadcast S512x2048 zeroWord)

theorem atPlace_apply (mask : IVec S512x2048 1) (w : FVec Ideal S512x1 .f32) (q : Fin 512) (j p : Fin 2048)
    (h : mask (ix2 q j) = BitVec.ofBool (decide (j = p))) : atPlace mask w (ix2 q j) = if j = p then w (ix2 q 0) else 0 := by
  have e : atPlace mask w (ix2 q j) = if mask (ix2 q j) = 1#1 then w (ix2 q 0) else 0 := by
    pointwise [atPlace]
    rfl
  rw [e, h]
  by_cases hj : j = p <;> simp [hj]

theorem addf_addf_apply {s : Shape} (a b c : FVec Ideal s .f32) (i : s.Idx) :
    addf (addf a b) c i = ((a i + b i) + c i : EReal) := rfl

theorem divf_apply' {s : Shape} (a b : FVec Ideal s .f32) (i : s.Idx) : divf a b i = Ideal.div (a i) (b i) := rfl

section block

variable (x0 : Vec Ideal S1x512x8 .f32) (x1 : Vec Ideal S1x8x2048 .f32)

/-- The sum of the three inverse distances, as the block's column. -/
abbrev total : FVec Ideal S512x1 .f32 := k0_pay9 columns (k0_pay3 x0 x1) (once x0 x1)

/-- The block's matrix of shares. -/
def shares : FVec Ideal S512x2048 .f32 :=
  addf (k0_pay10 columns (k0_pay2 x0 x1) (k0_pay3 x0 x1) (once x0 x1))
    (select (k0_pay11 columns (once x0 x1)) (k0_pay12 columns (k0_pay3 x0 x1) (once x0 x1)) (broadcast S512x2048 zeroWord))

theorem shares_eq : shares x0 x1 = addf
    (addf (atPlace (cmpi .eq columns (broadcastTo S512x2048 (k0_pay2 x0 x1) broadcasts_S512x1_S512x2048)) (divf (k0_pay3 x0 x1) (total x0 x1)))
      (atPlace (cmpi .eq columns (broadcastTo S512x2048 (k0_pay5 (once x0 x1)) broadcasts_S512x1_S512x2048)) (divf (k0_pay6 (once x0 x1)) (total x0 x1))))
    (atPlace (k0_pay11 columns (once x0 x1)) (divf (k0_pay8 columns (once x0 x1)) (total x0 x1))) := rfl

variable {x0 x1} {q : Fin 512}

theorem total_apply (h : Apart clampBits (dist x0 x1 q) four_le) : total x0 x1 (ix2 q 0)
    = ∑ k, invDist (dist x0 x1 q (near (dist x0 x1 q) four_le k)) := by
  have e : total x0 x1 = addf (addf (k0_pay3 x0 x1) (k0_pay6 (once x0 x1))) (k0_pay8 columns (once x0 x1)) := rfl
  rw [e, addf_addf_apply, inv0 h, inv1 h, inv2 h, Fin.sum_univ_three]

theorem shares_apply (h : Apart clampBits (dist x0 x1 q) four_le) (j : Fin 2048) :
    shares x0 x1 (ix2 q j) = spread (dist x0 x1 q) four_le j := by
  have m0 := mask_apply _ q _ j (place0 h)
  have m1 := mask_apply _ q _ j (place1 h)
  have m2 := place2 h j
  have s0 := atPlace_apply _ (divf (k0_pay3 x0 x1) (total x0 x1)) q j _ m0
  have s1 := atPlace_apply _ (divf (k0_pay6 (once x0 x1)) (total x0 x1)) q j _ m1
  have s2 := atPlace_apply _ (divf (k0_pay8 columns (once x0 x1)) (total x0 x1)) q j _ m2
  rw [divf_apply', total_apply h, inv0 h] at s0
  rw [divf_apply', total_apply h, inv1 h] at s1
  rw [divf_apply', total_apply h, inv2 h] at s2
  rw [shares_eq]
  refine (addf_addf_apply _ _ _ _).trans ?_
  rw [s0, s1, s2]
  rfl

variable (x0 x1) (f1 : FVec Ideal S1x128x512 .f32) (f2 : FVec Ideal S1x256x2048 .f32) (wa : FVec Ideal S256x256 .f32)
  (wb : FVec Ideal S256x128 .f32)

/-- The block of the convolution, as the body computes it. -/
def conv : FVec Ideal S256x512 .f32 :=
  k0_pay13 (k0_pay10 columns (k0_pay2 x0 x1) (k0_pay3 x0 x1) (once x0 x1)) (k0_pay11 columns (once x0 x1)) zeroWord
    (k0_pay12 columns (k0_pay3 x0 x1) (once x0 x1)) f2 wa wb f1

/-- The three products of the block. -/
def products (s : FVec Ideal S512x2048 .f32) : FVec Ideal S256x512 .f32 :=
  addf (matmul dot_S256x256_S256x512_S256x512_1_0_0_1_n_n none (shapeCast S256x256 wa shapeCasts_S256x256_S256x256)
      (matmul dot_S256x2048_S512x2048_S256x512_1_1_0_0_n_n none (shapeCast S256x2048 f2 shapeCasts_S1x256x2048_S256x2048) s
        (constant S256x512 .f32 0x00000000#32)) (constant S256x512 .f32 0x00000000#32))
    (matmul dot_S256x128_S128x512_S256x512_1_0_0_1_n_n none (shapeCast S256x128 wb shapeCasts_S256x128_S256x128)
      (shapeCast S128x512 f1 shapeCasts_S1x128x512_S128x512) (constant S256x512 .f32 0x00000000#32))

theorem conv_eq : conv x0 x1 f1 f2 wa wb = products f1 f2 wa wb (shares x0 x1) := rfl

theorem products_apply (s : FVec Ideal S512x2048 .f32) (o : Fin 256) (q : Fin 512) : products f1 f2 wa wb s (ix2 o q)
    = (∑ i : Fin 256, wa (ix2 o i) * ∑ j : Fin 2048, f2 (ix3 0 i j) * s (ix2 q j)) + ∑ i : Fin 128, wb (ix2 o i) * f1 (ix3 0 i q) := by
  pointwise [products]

/-- The block at output channel `o` and query `q`. -/
theorem conv_apply (h : Apart clampBits (dist x0 x1 q) four_le) (o : Fin 256) : conv x0 x1 f1 f2 wa wb (ix2 o q)
    = (∑ i : Fin 256, wa (ix2 o i) * interp (dist x0 x1 q) four_le fun j => f2 (ix3 0 i j))
      + ∑ i : Fin 128, wb (ix2 o i) * f1 (ix3 0 i q) := by
  rw [conv_eq, products_apply]
  refine congrArg (· + _) (Finset.sum_congr rfl fun i _ => congrArg (wa (ix2 o i) * ·) ?_)
  rw [← sum_mul_spread]
  exact Finset.sum_congr rfl fun j _ => by rw [shares_apply h]

/-- The block as it is stored. -/
theorem stored_apply (o : Fin 256) (q : Fin 512) :
    k0_pay14 (k0_pay10 columns (k0_pay2 x0 x1) (k0_pay3 x0 x1) (once x0 x1)) (k0_pay11 columns (once x0 x1)) zeroWord
      (k0_pay12 columns (k0_pay3 x0 x1) (once x0 x1)) f2 wa wb f1 (ix3 0 o q) = conv x0 x1 f1 f2 wa wb (ix2 o q) := by
  have e : ∀ y : FVec Ideal S256x512 .f32, shapeCast S1x256x512 y shapeCasts_S256x512_S1x256x512 (ix3 0 o q) = y (ix2 o q) := by
    intro y; pointwise
  exact Eq.trans (congrFun (show _ = shapeCast S1x256x512 (conv x0 x1 f1 f2 wa wb) shapeCasts_S256x512_S1x256x512 from rfl) _) (e _)

/-- The two sums of a block added to what is held. -/
def addSums (y : FVec Ideal S256x512 .f32) (acc : FVec Ideal S256x2 .f32) : FVec Ideal S256x2 .f32 :=
  addf (shapeCast S256x2 acc shapeCasts_S256x2_S256x2) (concatenate S256x2 1
    [⟨S256x1, shapeCast S256x1 (multiReduction .add [1] S256 y 0x00000000#32 reduces_S256x512_S256 (.inl rfl) rfl) shapeCasts_S256_S256x1⟩,
     ⟨S256x1, shapeCast S256x1 (multiReduction .add [1] S256 (mulf y y) 0x00000000#32 reduces_S256x512_S256 (.inl rfl) rfl) shapeCasts_S256_S256x1⟩]
    concatenates_S256x1_S256x1_S256x2_d1)

theorem pay16_eq (acc : FVec Ideal S256x2 .f32) :
    k0_pay16 (k0_pay10 columns (k0_pay2 x0 x1) (k0_pay3 x0 x1) (once x0 x1)) (k0_pay11 columns (once x0 x1)) zeroWord
      (k0_pay12 columns (k0_pay3 x0 x1) (once x0 x1)) f2 wa wb f1 acc = addSums (conv x0 x1 f1 f2 wa wb) acc := rfl

theorem addSums_zero (y : FVec Ideal S256x512 .f32) (acc : FVec Ideal S256x2 .f32) (o : Fin 256) :
    addSums y acc (ix2 o 0) = (acc (ix2 o 0) + ∑ q : Fin 512, y (ix2 o q) : EReal) := by
  pointwise [addSums]

theorem addSums_one (y : FVec Ideal S256x512 .f32) (acc : FVec Ideal S256x2 .f32) (o : Fin 256) :
    addSums y acc (ix2 o 1) = (acc (ix2 o 1) + ∑ q : Fin 512, y (ix2 o q) * y (ix2 o q) : EReal) := by
  pointwise [addSums]

end block

/-! ## The squared distances -/

/-- The squared distances where the coordinates past the third are zero. -/
theorem dist_apply (x0 : Vec Ideal S1x512x8 .f32) (x1 : Vec Ideal S1x8x2048 .f32) (q : Fin 512) (j : Fin 2048)
    (hx : ∀ k : Fin 5, x0 (ix3 0 q (k.natAdd 3)) = 0) :
    k0_pay1 x0 x1 (ix2 q j) = sqDist (fun k => x0 (ix3 0 q (k.castLE (by decide)))) fun k => x1 (ix3 0 (k.castLE (by decide)) j) := by
  pointwise [k0_pay1]
  have z (i : Fin 8) (k : Fin 5) (e : i = k.natAdd 3) : x0 (ix3 0 q i) = 0 := by rw [e]; exact hx k
  rw [Fin.sum_univ_eight, z 3 0 rfl, z 4 1 rfl, z 5 2 rfl, z 6 3 rfl, z 7 4 rfl]
  simp only [zero_mul, add_zero]
  unfold sqDist
  rw [Fin.sum_univ_three, Fin.sum_univ_three, Fin.sum_univ_three]
  rfl

end Cert.Proof

end
-- ==== Proof.Value.lean ====
/-
  The result as a function of the arguments: the squared distances, the convolution of the interpolated and the given
  features, and its normalised element.
-/
module

public import proofs.«01_k».proof.Proof.Row

@[expose] public section

noncomputable section

namespace Cert.Proof

open Idealize.ShloMosaic

/-- The number of elements of a channel. -/
def count : EReal := Ideal.ofBits .f32 0x47000000#32
/-- The term under the square root of the normalisation. -/
def varEps : EReal := Ideal.ofBits .f32 0x3727C5AC#32

/-- The normalised element `x` of a channel with sum `s0` and sum of squares `s1`, scale `g` and shift `b`. -/
def normed (s0 s1 g b x : EReal) : EReal :=
  x * Ideal.div g (Ideal.sqrt (Ideal.div s1 count - Ideal.div s0 count * Ideal.div s0 count + varEps))
    + (b - Ideal.div s0 count
      * Ideal.div g (Ideal.sqrt (Ideal.div s1 count - Ideal.div s0 count * Ideal.div s0 count + varEps)))

/-- The squared distances of query `n` of batch `b`. -/
def distOf (p1 : FVec Ideal ⟨3, ![4, 8192, 3]⟩ .f32) (p2 : FVec Ideal ⟨3, ![4, 2048, 3]⟩ .f32) (b : Fin 4) (n : Fin 8192)
    (j : Fin 2048) : EReal :=
  sqDist (fun k => p1 (ix3 b n k)) fun k => p2 (ix3 b j k)

/-- The convolution's element at batch `b`, channel `o` and query `n`. -/
def convOf (p1 : FVec Ideal ⟨3, ![4, 8192, 3]⟩ .f32) (p2 : FVec Ideal ⟨3, ![4, 2048, 3]⟩ .f32)
    (f1 : FVec Ideal ⟨3, ![4, 128, 8192]⟩ .f32) (f2 : FVec Ideal ⟨3, ![4, 256, 2048]⟩ .f32) (w : FVec Ideal ⟨2, ![256, 384]⟩ .f32)
    (b : Fin 4) (o : Fin 256) (n : Fin 8192) : EReal :=
  (∑ i : Fin 256, w (ix2 o (i.castAdd 128)) * interp (distOf p1 p2 b n) four_le fun j => f2 (ix3 b i j))
    + ∑ i : Fin 128, w (ix2 o (i.natAdd 256)) * f1 (ix3 b i n)

end Cert.Proof

end
-- ==== Proof.Region1.lean ====
/-
  The second region: every element of the result is the normalised element of the convolution, with the statistics
  read from the two sums of its channel.
-/
module

public import proofs.«01_k».proof.Proof.Gen.KernelIdeal.Frame
public import proofs.«01_k».proof.Proof.Value
public import Idealize.ShloMosaic.PureOps.Ideal.Laws
public import Idealize.ShloMosaic.Lib.Pointwise
public import Idealize.ShloMosaic.Lib.Pipeline.ValueKit

@[expose] public section

set_option maxRecDepth 16384

noncomputable section

namespace Cert.Proof

open Idealize.ShloMosaic Cert.KernelIdeal Cert.KernelIdeal.Gen Idealize.ShloMosaic.TcCoe

/-- The channel's mean, variance and scale, as the kernel's columns. -/
def meanCol (s : FVec Ideal S256x2 .f32) : FVec Ideal S256x1 .f32 :=
  divf (extractStridedSlice S256x1 ![0, 0] (shapeCast S256x2 s shapeCasts_S256x2_S256x2) slices_S256x2_o0_0_S256x1)
    (broadcast S256x1 (Scalar.ofBits .f32 0x47000000#32 : Ideal .f32))

def squareCol (s : FVec Ideal S256x2 .f32) : FVec Ideal S256x1 .f32 :=
  divf (extractStridedSlice S256x1 ![0, 1] (shapeCast S256x2 s shapeCasts_S256x2_S256x2) slices_S256x2_o0_1_S256x1)
    (broadcast S256x1 (Scalar.ofBits .f32 0x47000000#32 : Ideal .f32))

def scaleCol (mu sq g : FVec Ideal S256x1 .f32) : FVec Ideal S256x1 .f32 :=
  divf (shapeCast S256x1 g shapeCasts_S256x1_S256x1)
    (sqrt (addf (subf sq (mulf mu mu)) (broadcast S256x1 (Scalar.ofBits .f32 0x3727C5AC#32 : Ideal .f32))))

def shiftCol (mu sc b : FVec Ideal S256x1 .f32) : FVec Ideal S256x1 .f32 :=
  subf (shapeCast S256x1 b shapeCasts_S256x1_S256x1) (mulf mu sc)

def affine (sc sh : FVec Ideal S256x1 .f32) (y : FVec Ideal S1x256x1024 .f32) : FVec Ideal S1x256x1024 .f32 :=
  shapeCast S1x256x1024 (maximumf (addf (mulf (shapeCast S256x1024 y shapeCasts_S1x256x1024_S256x1024)
      (broadcastTo S256x1024 sc broadcasts_S256x1_S256x1024)) (broadcastTo S256x1024 sh broadcasts_S256x1_S256x1024))
    (broadcast S256x1024 (Scalar.ofBits .f32 0x00000000#32 : Ideal .f32))) shapeCasts_S256x1024_S1x256x1024

theorem normalise_eq (s : FVec Ideal S256x2 .f32) (g b : FVec Ideal S256x1 .f32) (y : FVec Ideal S1x256x1024 .f32) :
    k1_pay1 s g b y = affine (scaleCol (meanCol s) (squareCol s) g)
      (shiftCol (meanCol s) (scaleCol (meanCol s) (squareCol s) g) b) y := rfl

theorem meanCol_apply (s : FVec Ideal S256x2 .f32) (o : Fin 256) : meanCol s (ix2 o 0) = Ideal.div (s (ix2 o 0)) count := by
  pointwise [meanCol]
  rfl

theorem squareCol_apply (s : FVec Ideal S256x2 .f32) (o : Fin 256) : squareCol s (ix2 o 0) = Ideal.div (s (ix2 o 1)) count := by
  pointwise [squareCol]
  rfl

theorem scaleCol_apply (mu sq g : FVec Ideal S256x1 .f32) (o : Fin 256) : scaleCol mu sq g (ix2 o 0)
    = Ideal.div (g (ix2 o 0)) (Ideal.sqrt (sq (ix2 o 0) - mu (ix2 o 0) * mu (ix2 o 0) + varEps)) := by
  pointwise [scaleCol]
  rfl

theorem shiftCol_apply (mu sc b : FVec Ideal S256x1 .f32) (o : Fin 256) : shiftCol mu sc b (ix2 o 0)
    = (b (ix2 o 0) - mu (ix2 o 0) * sc (ix2 o 0) : EReal) := by
  pointwise [shiftCol]

theorem affine_apply (sc sh : FVec Ideal S256x1 .f32) (y : FVec Ideal S1x256x1024 .f32) (o : Fin 256) (n : Fin 1024) :
    affine sc sh y (ix3 0 o n) = max (y (ix3 0 o n) * sc (ix2 o 0) + sh (ix2 o 0) : EReal) 0 := by
  pointwise [affine]

theorem normalise_apply (s : FVec Ideal S256x2 .f32) (g b : FVec Ideal S256x1 .f32) (y : FVec Ideal S1x256x1024 .f32)
    (o : Fin 256) (n : Fin 1024) : k1_pay1 (F := Ideal) s g b y (ix3 0 o n)
      = max (normed (s (ix2 o 0)) (s (ix2 o 1)) (g (ix2 o 0)) (b (ix2 o 0)) (y (ix3 0 o n))) 0 := by
  rw [normalise_eq, affine_apply, shiftCol_apply, scaleCol_apply, meanCol_apply, squareCol_apply]
  rfl

/-- An index of a block with a leading unit axis. -/
theorem ix3_zero {a b : ℕ} (y : (⟨3, ![1, a, b]⟩ : Shape).Idx) : ∃ (o : Fin a) (n : Fin b), y = ix3 (0 : Fin 1) o n := by
  obtain ⟨z, o, n, rfl⟩ : ∃ (z : Fin 1) (o : Fin a) (n : Fin b), y = ix3 z o n := ⟨y 0, y 1, y 2, eq_ix3 y⟩
  exact ⟨o, n, by rw [Subsingleton.elim z 0]⟩

/-- The blocks' places, by the point of the grid. -/
theorem index1 : ∀ t : Fin cfg1.grid.N, win1_0.index t = ![t.val / 8, 0, t.val % 8] ∧ win1_1.index t = ![0, 0]
    ∧ win1_2.index t = ![0, 0] ∧ win1_3.index t = ![0, 0] ∧ win1_4.index t = ![t.val / 8, 0, t.val % 8] := by
  decide +kernel

/-! ## The result's array -/

variable (V : (c : Dev nD) → (b : Ref sig .tc) → Buf (Elt Ideal) ((c : Thread nD τ).loc b)) (c : Dev nD)

/-- What the second region leaves in the result's array. -/
def normalised : FVec Ideal S4x256x8192 .f32 := fun i =>
  max (normed (V c main_v5_1 (ix2 (i 1) 0)) (V c main_v5_1 (ix2 (i 1) 1)) (V c main_v6 (ix2 (i 1) 0))
    (V c main_v7 (ix2 (i 1) 0)) (V c main_v5_0 i)) 0

theorem region1_eq : (dat1 V c).arrAt 4 cfg1.N = normalised V c := by
  refine (dat1 V c).arrAt_eq_of_covers 4 _ (by decide +kernel) fun t hf y => ?_
  blk_simp
  rw [after1_4]
  frame_out
  obtain ⟨o, n, rfl⟩ : ∃ (o : Fin 256) (n : Fin 1024), y = ix3 (0 : Fin 1) o n := ix3_zero y
  refine (normalise_apply _ _ _ _ o n).trans ?_
  unfold normalised
  blk_point [iblk1, index1 t]

end Cert.Proof

end
-- ==== Proof.Region0.lean ====
/-
  The first region: the convolution's array, block by block, and the two sums of every channel carried over the points.
-/
module

public import proofs.«01_k».proof.Proof.Gen.KernelIdeal.Frame
public import proofs.«01_k».proof.Proof.Block
public import proofs.«01_k».proof.Proof.Region1
public import Idealize.ShloMosaic.Lib.Pipeline.ValueKit

@[expose] public section

set_option maxRecDepth 16384

noncomputable section

namespace Cert.Proof

open Idealize.ShloMosaic Cert.KernelIdeal Cert.KernelIdeal.Gen Idealize.ShloMosaic.TcCoe

variable (V : (c : Dev nD) → (b : Ref sig .tc) → Buf (Elt Ideal) ((c : Thread nD τ).loc b)) (c : Dev nD)

/-! ## Blocks -/

/-- The blocks' places, by the point of the grid. -/
theorem index0 : ∀ t : Fin cfg0.grid.N, win0_0.index t = ![t.val / 16, t.val % 16, 0] ∧ win0_1.index t = ![t.val / 16, 0, 0]
    ∧ win0_2.index t = ![t.val / 16, 0, t.val % 16] ∧ win0_3.index t = ![t.val / 16, 0, 0] ∧ win0_4.index t = ![0, 0]
    ∧ win0_5.index t = ![0, 0] ∧ win0_6.index t = ![t.val / 16, 0, t.val % 16] ∧ win0_7.index t = ![0, 0] := by
  decide +kernel

/-- The batch of a point. -/
def batchOf (t : Fin cfg0.N) : Fin 4 := ⟨t.val / 16, by have := t.isLt; have : cfg0.N = 64 := N_0; omega⟩
/-- The query of a point's block. -/
def queryOf (t : Fin cfg0.N) (q : Fin 512) : Fin 8192 := ⟨t.val % 16 * 512 + q.val, by have := q.isLt; omega⟩

variable (t : Fin cfg0.N)

theorem blk0_0 (q : Fin 512) (k : Fin 8) : iblk0 V c 0 t (ix3 (0 : Fin 1) q k) = V c main_v0 (ix3 (batchOf t) (queryOf t q) k) := by
  unfold batchOf queryOf
  blk_ext [iblk0, index0 t]

theorem blk0_1 (k : Fin 8) (j : Fin 2048) : iblk0 V c 1 t (ix3 (0 : Fin 1) k j) = V c main_v2 (ix3 (batchOf t) k j) := by
  unfold batchOf
  blk_ext [iblk0, index0 t]

theorem blk0_2 (i : Fin 128) (q : Fin 512) : iblk0 V c 2 t (ix3 (0 : Fin 1) i q) = V c main_arg2 (ix3 (batchOf t) i (queryOf t q)) := by
  unfold batchOf queryOf
  blk_ext [iblk0, index0 t]

theorem blk0_3 (i : Fin 256) (j : Fin 2048) : iblk0 V c 3 t (ix3 (0 : Fin 1) i j) = V c main_arg3 (ix3 (batchOf t) i j) := by
  unfold batchOf
  blk_ext [iblk0, index0 t]

theorem blk0_4 (o i : Fin 256) : iblk0 V c 4 t (ix2 o i) = V c main_v3 (ix2 o i) := by
  blk_ext [iblk0, index0 t]

theorem blk0_5 (o : Fin 256) (i : Fin 128) : iblk0 V c 5 t (ix2 o i) = V c main_v4 (ix2 o i) := by
  blk_ext [iblk0, index0 t]

/-! ## The convolution at an element -/

/-- The squared distances of query `n` of batch `b`, from the region's padded points. -/
def paddedDist (b : Fin 4) (n : Fin 8192) (j : Fin 2048) : EReal :=
  sqDist (fun k => V c main_v0 (ix3 b n (k.castLE (by decide)))) fun k => V c main_v2 (ix3 b (k.castLE (by decide)) j)

/-- The features of the points, those of the queries, and the two parts of the weights. -/
abbrev feats2 : FVec Ideal S4x256x2048 .f32 := V c main_arg3
abbrev feats1 : FVec Ideal S4x128x8192 .f32 := V c main_arg2
abbrev weightA : FVec Ideal S256x256 .f32 := V c main_v3
abbrev weightB : FVec Ideal S256x128 .f32 := V c main_v4

/-- The convolution's element. -/
def convolved (b : Fin 4) (o : Fin 256) (n : Fin 8192) : EReal :=
  (∑ i : Fin 256, weightA V c (ix2 o i) * interp (paddedDist V c b n) four_le fun j => feats2 V c (ix3 b i j))
    + ∑ i : Fin 128, weightB V c (ix2 o i) * feats1 V c (ix3 b i n)

/-- What the body computes at a point. -/
def convAt : FVec Ideal S256x512 .f32 :=
  conv (iblk0 V c 0 t) (iblk0 V c 1 t) (iblk0 V c 2 t) (iblk0 V c 3 t) (iblk0 V c 4 t) (iblk0 V c 5 t)

/-- What the proofs about this region take of its entry: the padding is zero, and the nearest distances are distinct. -/
structure Entry : Prop where
  pad : ∀ b n (k : Fin 5), V c main_v0 (ix3 b n (k.natAdd 3)) = (0 : EReal)
  apart : ∀ b n, Apart clampBits (paddedDist V c b n) four_le

variable {V c t}

theorem Entry.dist (h : Entry V c) (q : Fin 512) :
    dist (iblk0 V c 0 t) (iblk0 V c 1 t) q = paddedDist V c (batchOf t) (queryOf t q) := by
  funext j
  refine (dist_apply _ _ q j fun k => ?_).trans ?_
  · rw [blk0_0]; exact h.pad _ _ k
  · unfold paddedDist
    congr 1
    · funext k; exact blk0_0 V c t q _
    · funext k; exact blk0_1 V c t _ j

theorem Entry.convAt (h : Entry V c) (o : Fin 256) (q : Fin 512) :
    convAt V c t (ix2 o q) = convolved V c (batchOf t) o (queryOf t q) := by
  refine (conv_apply _ _ _ _ _ _ (by rw [h.dist]; exact h.apart _ _) o).trans ?_
  unfold convolved
  rw [h.dist]
  refine congrArg₂ (· + ·) (Finset.sum_congr rfl fun i _ => ?_) (Finset.sum_congr rfl fun i _ => ?_)
  · rw [blk0_4]
    refine congrArg (weightA V c (ix2 o i) * ·) (congrArg _ ?_)
    funext j
    exact blk0_3 V c t i j
  · rw [blk0_5, blk0_2]

/-! ## The two outputs after a point -/

variable (V c t)

/-- The first output holds the block of the convolution. -/
theorem outsAt_fst (o : Fin 256) (q : Fin 512) : (outsAt0 V c t.val t.isLt).1 (ix3 (0 : Fin 1) o q) = convAt V c t (ix2 o q) := by
  by_cases h0 : t.val % 64 = 0
  · rw [outsAt0_A V c t h0]
    frame_out
    exact stored_apply _ _ _ _ _ _ o q
  · rw [outsAt0_B V c t h0]
    frame_out
    exact stored_apply _ _ _ _ _ _ o q

/-- The second output after the first point: the block's sums from zero. -/
theorem outsAt_snd_first (h0 : t.val % 64 = 0) : (outsAt0 V c t.val t.isLt).2 = addSums (convAt V c t) k0_pay15 := by
  rw [outsAt0_A V c t h0]
  frame_out
  exact pay16_eq _ _ _ _ _ _ _

/-- The second output after a later point: the block's sums added to what the point before left. -/
theorem outsAt_snd_later (h0 : ¬ t.val % 64 = 0) : (outsAt0 V c t.val t.isLt).2
    = addSums (convAt V c t) (outsAt0 V c (t.val - 1) (Nat.lt_of_le_of_lt (Nat.sub_le _ _) t.isLt)).2 := by
  rw [outsAt0_B V c t h0]
  frame_out
  exact pay16_eq _ _ _ _ _ _ _

/-! ## The two arrays the region leaves -/

/-- What the body adds to each of the two sums at a point. -/
def addend (t : Fin cfg0.N) (o : Fin 256) (k : Fin 2) : EReal :=
  if k = 0 then ∑ q : Fin 512, convAt V c t (ix2 o q) else ∑ q : Fin 512, convAt V c t (ix2 o q) * convAt V c t (ix2 o q)

theorem addSums_apply (acc : FVec Ideal S256x2 .f32) (o : Fin 256) (k : Fin 2) :
    addSums (convAt V c t) acc (ix2 o k) = (acc (ix2 o k) + addend V c t o k : EReal) := by
  have : k = 0 ∨ k = 1 := by revert k; decide
  rcases this with rfl | rfl
  · exact addSums_zero _ _ o
  · exact addSums_one _ _ o

/-- The second output after the last point: the sum of every point's addends. -/
theorem outsAt_snd (hl : t.val + 1 = cfg0.N) (o : Fin 256) (k : Fin 2) :
    ((outsAt0 V c t.val t.isLt).2 (ix2 o k) : EReal) = ∑ p : Fin cfg0.N, addend V c p o k := by
  have key := Pipeline.eq_sum_fin_of_reset_step_apply_last
    (fun n h => ((outsAt0 V c n h).2 : S256x2.Idx → EReal)) 64 (fun _ => (0 : EReal))
    (fun p i => addend V c p (i 0) (i 1))
    (fun p hp i => by
      obtain ⟨o', k', rfl⟩ : ∃ (o' : Fin 256) (k' : Fin 2), i = ix2 o' k' := ⟨i 0, i 1, eq_ix2 i⟩
      show (outsAt0 V c p.val p.isLt).2 (ix2 o' k') = _
      rw [outsAt_snd_first V c p hp, addSums_apply]
      exact congrArg (· + _) Ideal.ofBits_zero_f32)
    (fun p hp i => by
      obtain ⟨o', k', rfl⟩ : ∃ (o' : Fin 256) (k' : Fin 2), i = ix2 o' k' := ⟨i 0, i 1, eq_ix2 i⟩
      show (outsAt0 V c p.val p.isLt).2 (ix2 o' k') = _
      rw [outsAt_snd_later V c p hp, addSums_apply]
      rfl)
    (by rw [show cfg0.N = 64 from N_0]) t hl (ix2 o k)
  rw [zero_add] at key
  exact key

variable {V c}

/-- The convolution's array. -/
def convArray : FVec Ideal S4x256x8192 .f32 := fun i => convolved V c (i 0) (i 1) (i 2)

/-- The two sums of a channel. -/
def channelSum (o : Fin 256) (k : Fin 2) : EReal :=
  if k = 0 then ∑ b : Fin 4, ∑ n : Fin 8192, convolved V c b o n
  else ∑ b : Fin 4, ∑ n : Fin 8192, convolved V c b o n * convolved V c b o n

/-- The two sums of every channel. -/
def sumsArray : FVec Ideal S256x2 .f32 := fun i => channelSum (V := V) (c := c) (i 0) (i 1)

/-- The points' addends sum to the channel's two sums. -/
theorem Entry.sum_addend (h : Entry V c) (o : Fin 256) (k : Fin 2) :
    ∑ p : Fin cfg0.N, addend V c p o k = channelSum (V := V) (c := c) o k := by
  unfold addend channelSum
  by_cases hk : k = 0
  · simp only [hk, if_true]
    refine Fin.sum_points_lanes_congr 16 (fun t q ha hl => ?_) N_0 rfl
    rw [h.convAt]
    rfl
  · simp only [hk, if_false]
    refine Fin.sum_points_lanes_congr 16 (fun t q ha hl => ?_) N_0 rfl
    rw [h.convAt]
    rfl

theorem Entry.conv_eq (h : Entry V c) : (dat0 V c).arrAt 6 cfg0.N = convArray (V := V) (c := c) := by
  refine (dat0 V c).arrAt_eq_of_covers 6 _ (by decide +kernel) fun t hf y => ?_
  blk_simp
  rw [after0_6]
  obtain ⟨o, q, rfl⟩ : ∃ (o : Fin 256) (q : Fin 512), y = ix3 (0 : Fin 1) o q := ix3_zero y
  refine (outsAt_fst V c t o q).trans ((h.convAt o q).trans ?_)
  have e : ((View.whole main_v5_0).slice (win0_6.rect t)).emb (ix3 (0 : Fin 1) o q) = ix3 (batchOf t) o (queryOf t q) := by
    unfold batchOf queryOf
    blk_ext [index0 t]
  refine Eq.trans ?_ (congrArg (convArray (V := V) (c := c)) e.symm)
  rfl

theorem Entry.sums_eq (h : Entry V c) : (dat0 V c).arrAt 7 cfg0.N = sumsArray (V := V) (c := c) := by
  refine (dat0 V c).arrAt_eq_of_after_last 7 ⟨63, by decide⟩ (by decide +kernel) _ fun j => ?_
  rw [after0_7]
  obtain ⟨o, k, rfl⟩ : ∃ (o : Fin 256) (k : Fin 2), j = ix2 o k := ⟨j 0, j 1, eq_ix2 j⟩
  exact (outsAt_snd V c ⟨63, by decide⟩ (by decide) o k).trans (h.sum_addend o k)

end Cert.Proof

end
-- ==== Proof.KernelValue.lean ====
/-
  The kernel's result as a function of the arguments.
-/
module

public import proofs.«01_k».proof.Proof.Host
public import proofs.«01_k».proof.Proof.Region0
public import proofs.«01_k».proof.Proof.Region1

@[expose] public section

set_option maxRecDepth 16384

noncomputable section

namespace Cert.Proof

open Idealize.ShloMosaic Cert.KernelIdeal Cert.KernelIdeal.Gen Idealize.ShloMosaic.TcCoe

variable (m : (ℓ : Loc nD τ sig) → Buf (Elt Ideal) ℓ) (ρ : Dev nD → PrngReg) (c : Dev nD)

/-- The squared distances of the arguments. -/
abbrev argDist : Fin 4 → Fin 8192 → Fin 2048 → EReal :=
  distOf (m ((c : Thread nD τ).loc main_arg0)) (m ((c : Thread nD τ).loc main_arg1))

/-- The convolution of the arguments. -/
abbrev argConv : Fin 4 → Fin 256 → Fin 8192 → EReal :=
  convOf (m ((c : Thread nD τ).loc main_arg0)) (m ((c : Thread nD τ).loc main_arg1)) (m ((c : Thread nD τ).loc main_arg2))
    (m ((c : Thread nD τ).loc main_arg3)) (m ((c : Thread nD τ).loc main_arg4))

/-- At the first region's entry the padded points have the arguments' distances. -/
theorem paddedDist_entry (b : Fin 4) (n : Fin 8192) : paddedDist (V5 m ρ) c b n = argDist m c b n := by
  funext j
  unfold paddedDist argDist distOf
  congr 1
  · funext k
    rw [entry_x1, dif_pos (show (Fin.castLE _ k : Fin 8).val < 3 from k.isLt)]
    rfl
  · funext k
    rw [entry_x2, dif_pos (show (Fin.castLE _ k : Fin 8).val < 3 from k.isLt)]
    rfl

theorem entry_of_apart (h : ∀ b n, Apart clampBits (argDist m c b n) four_le) : Entry (V5 m ρ) c where
  pad b n k := by
    rw [entry_x1, dif_neg (show ¬ (Fin.natAdd 3 k : Fin 8).val < 3 from Nat.not_lt.mpr (Nat.le_add_right 3 k.val))]
  apart b n := by
    rw [paddedDist_entry]
    exact h b n

theorem convolved_entry (b : Fin 4) (o : Fin 256) (n : Fin 8192) : convolved (V5 m ρ) c b o n = argConv m c b o n := by
  unfold convolved argConv convOf
  rw [paddedDist_entry]
  refine congrArg₂ (· + ·) (Finset.sum_congr rfl fun i _ => ?_) (Finset.sum_congr rfl fun i _ => ?_)
  · rw [show weightA (V5 m ρ) c (ix2 o i) = _ from entry_wa m ρ c o i,
      show feats2 (V5 m ρ) c = _ from W5_args m ρ c main_arg3 (by decide)]
  · rw [show weightB (V5 m ρ) c (ix2 o i) = _ from entry_wb m ρ c o i,
      show feats1 (V5 m ρ) c = _ from W5_args m ρ c main_arg2 (by decide)]

/-- The sum of a channel, and of its squares. -/
def chanSum (o : Fin 256) : EReal := ∑ b : Fin 4, ∑ n : Fin 8192, argConv m c b o n
def chanSquares (o : Fin 256) : EReal := ∑ b : Fin 4, ∑ n : Fin 8192, argConv m c b o n * argConv m c b o n

theorem sum_entry (o : Fin 256) : channelSum (V := V5 m ρ) (c := c) o 0 = chanSum m c o := by
  unfold channelSum chanSum
  rw [if_pos rfl]
  exact Finset.sum_congr rfl fun b _ => Finset.sum_congr rfl fun n _ => convolved_entry m ρ c b o n

theorem squares_entry (o : Fin 256) : channelSum (V := V5 m ρ) (c := c) o 1 = chanSquares m c o := by
  unfold channelSum chanSquares
  rw [if_neg (by decide)]
  refine Finset.sum_congr rfl fun b _ => Finset.sum_congr rfl fun n _ => ?_
  rw [convolved_entry]

/-- The kernel's result: every element of the convolution, normalised with its channel's statistics. -/
theorem kernel_value (h : ∀ b n, Apart clampBits (argDist m c b n) four_le) (b : Fin 4) (o : Fin 256) (n : Fin 8192) :
    (dat1 (V7 m ρ) c).arrAt 4 cfg1.N (ix3 b o n)
      = (max (normed (chanSum m c o) (chanSquares m c o) (m ((c : Thread nD τ).loc main_arg5) (ix1 o))
          (m ((c : Thread nD τ).loc main_arg6) (ix1 o)) (argConv m c b o n)) 0 : EReal) := by
  have hE := entry_of_apart m ρ c h
  have hconv : V7 m ρ c main_v5_0 = convArray (V := V5 m ρ) (c := c) :=
    ((W7_of m ρ c main_v5_0 (by decide)).trans (W6_arr m ρ c 6)).trans hE.conv_eq
  have hsums : V7 m ρ c main_v5_1 = sumsArray (V := V5 m ρ) (c := c) :=
    ((W7_of m ρ c main_v5_1 (by decide)).trans (W6_arr m ρ c 7)).trans hE.sums_eq
  rw [region1_eq]
  show max (normed (V7 m ρ c main_v5_1 (ix2 o 0)) (V7 m ρ c main_v5_1 (ix2 o 1)) (V7 m ρ c main_v6 (ix2 o 0))
    (V7 m ρ c main_v7 (ix2 o 0)) (V7 m ρ c main_v5_0 (ix3 b o n))) 0 = _
  rw [hconv, hsums, entry_scale, entry_shift, ← sum_entry m ρ, ← squares_entry m ρ, ← convolved_entry m ρ]
  rfl

end Cert.Proof

end
-- ==== Proof.Composed.lean ====
/-
  The reference's result as a few named stages: the negated distances, the weights, the gathered features, their
  interpolation, the convolution, its statistics, and the normalisation.
-/
module

public import proofs.«01_k».proof.Proof.Gen.ReferenceIdeal.Run
public import proofs.«01_k».proof.Proof.Value
public import Idealize.ShloMosaic.PureOps.Ideal.Laws

@[expose] public section

set_option maxRecDepth 16384

noncomputable section

namespace Cert.Proof.Ref

open Idealize.ShloMosaic Cert.ReferenceIdeal Cert.ReferenceIdeal.Gen Idealize.ShloMosaic.TcCoe

/-- The negated distances of every query to every point. -/
def negDists (p1 : FVec Ideal S4x8192x3 .f32) (p2 : FVec Ideal S4x2048x3 .f32) : FVec Ideal S4x8192x2048 .f32 :=
  Host.negf (Host.sqrt (maximumf
    (subf
      (addf
        (broadcastInDim S4x8192x2048 ![0, 1, 2] bcast_S4x8192x1_S4x8192x2048_0_1_2
          (broadcastInDim S4x8192x1 ![0, 1] bcast_S4x8192_S4x8192x1_0_1
            (Host.reduceAdd (mulf p1 p1) (constant S_ .f32 0x00000000#32) reducesTo_S4x8192x3_S4x8192_d2 h_S_)))
        (broadcastInDim S4x8192x2048 ![0, 1, 2] bcast_S4x1x2048_S4x8192x2048_0_1_2
          (broadcastInDim S4x1x2048 ![0, 2] bcast_S4x2048_S4x1x2048_0_2
            (Host.reduceAdd (mulf p2 p2) (constant S_ .f32 0x00000000#32) reducesTo_S4x2048x3_S4x2048_d2 h_S_))))
      (mulf (broadcastInDim S4x8192x2048 ![] bcast_S_S4x8192x2048 (constant S_ .f32 0x40000000#32))
        (Host.dotGeneral dot_S4x8192x3_S4x2048x3_S4x8192x2048_2_2_1_1_0_0 none p1 p2)))
    (broadcastInDim S4x8192x2048 ![] bcast_S_S4x8192x2048 (constant S_ .f32 0x2B8CBCCC#32))))

/-- The three greatest negated distances, and their places. -/
def nearVals (x : FVec Ideal S4x8192x2048 .f32) : FVec Ideal S4x8192x3 .f32 :=
  (Host.topK S4x8192x3 2 (FloatOps.cmpfTotal .gt) x sliceFits_S4x8192x2048_S4x8192x3).1
def nearIdx (x : FVec Ideal S4x8192x2048 .f32) : IVec S4x8192x3 32 :=
  (Host.topK S4x8192x3 2 (FloatOps.cmpfTotal .gt) x sliceFits_S4x8192x2048_S4x8192x3).2

/-- The inverse distances, and their shares of the sum. -/
def invs (v : FVec Ideal S4x8192x3 .f32) : FVec Ideal S4x8192x3 .f32 :=
  Host.divf (broadcastInDim S4x8192x3 ![] bcast_S_S4x8192x3 (constant S_ .f32 0x3F800000#32))
    (addf (Host.negf v) (broadcastInDim S4x8192x3 ![] bcast_S_S4x8192x3 (constant S_ .f32 0x322BCC77#32)))
def shares (w : FVec Ideal S4x8192x3 .f32) : FVec Ideal S4x8192x3 .f32 :=
  Host.divf w (broadcastInDim S4x8192x3 ![0, 1, 2] bcast_S4x8192x1_S4x8192x3_0_1_2
    (broadcastInDim S4x8192x1 ![0, 1] bcast_S4x8192_S4x8192x1_0_1
      (Host.reduceAdd w (constant S_ .f32 0x00000000#32) reducesTo_S4x8192x3_S4x8192_d2 h_S_)))

/-- The places as a column, a negative one counted from the end. -/
def column (ix : IVec S4x8192x3 32) : IVec S4x24576x1 32 :=
  broadcastInDim S4x24576x1 ![0, 1] bcast_S4x24576_S4x24576x1_0_1 (shapeCast S4x24576 ix shapeCasts_S4x8192x3_S4x24576)
def wrapped (ix : IVec S4x24576x1 32) : IVec S4x24576x1 32 :=
  select (cmpi .slt ix (broadcastInDim S4x24576x1 ![] bcast_S_S4x24576x1 (constantI S_ 32 0#32)))
    (addi ix (broadcastInDim S4x24576x1 ![] bcast_S_S4x24576x1 (constantI S_ 32 2048#32))) ix

/-- Whether every place of a row lies in the table. -/
def inside (ix : IVec S4x24576x1 32) : IVec S4x24576 1 :=
  Host.reduce IntOp.andi
    (andi (cmpi .sge ix (broadcastInDim S4x24576x1 ![] bcast_S_S4x24576x1 (constantI S_ 32 0#32)))
      (cmpi .sle ix (broadcastInDim S4x24576x1 ![0, 1, 2] bcast_S1x1x1_S4x24576x1_0_1_2
        (broadcastInDim S1x1x1 ![2] bcast_S1_S1x1x1_2 (constantI S1 32 2047#32)))))
    (constantI S_ 1 1#1) reducesTo_S4x24576x1_S4x24576_d2 h_S_

/-- The features at the places. -/
def gathered (f : FVec Ideal S4x256x2048 .f32) (ix : IVec S4x24576x1 32) : FVec Ideal S4x24576x256 .f32 :=
  select (broadcastInDim S4x24576x256 ![0, 1] bcast_S4x24576_S4x24576x256_0_1 (inside ix))
    (Host.gather gather_S4x2048x256_S4x24576x1_S4x24576x256_2_1_0_0_1_2_11256
      (transpose S4x2048x256 [0, 2, 1] f transposes_S4x256x2048_S4x2048x256_0_2_1) ix)
    (broadcastInDim S4x24576x256 ![] bcast_S_S4x24576x256 (constant S_ .f32 0x7FC00000#32))

/-- The interpolated features. -/
def interpolated (g : FVec Ideal S4x24576x256 .f32) (w : FVec Ideal S4x8192x3 .f32) : FVec Ideal S4x256x8192 .f32 :=
  transpose S4x256x8192 [0, 2, 1]
    (Host.reduceAdd
      (mulf (shapeCast S4x8192x3x256 g shapeCasts_S4x24576x256_S4x8192x3x256)
        (broadcastInDim S4x8192x3x256 ![0, 1, 2, 3] bcast_S4x8192x3x1_S4x8192x3x256_0_1_2_3
          (broadcastInDim S4x8192x3x1 ![0, 1, 2] bcast_S4x8192x3_S4x8192x3x1_0_1_2 w)))
      (constant S_ .f32 0x00000000#32) reducesTo_S4x8192x3x256_S4x8192x256_d2 h_S_)
    transposes_S4x8192x256_S4x256x8192_0_2_1

/-- The convolution. -/
def convolution (x : FVec Ideal S4x256x8192 .f32) (f : FVec Ideal S4x128x8192 .f32) (w : FVec Ideal S256x384 .f32) :
    FVec Ideal S4x256x8192 .f32 :=
  transpose S4x256x8192 [0, 2, 1]
    (Host.dotGeneral dot_S4x384x8192_S256x384_S4x8192x256_1_1_02_0_n_n none
      (concatenate S4x384x8192 1 [⟨S4x256x8192, x⟩, ⟨S4x128x8192, f⟩] concatenates_S4x256x8192_S4x128x8192_S4x384x8192_d1) w)
    transposes_S4x8192x256_S4x256x8192_0_2_1

/-- The channels' sums, means and variances. -/
def sums (y : FVec Ideal S4x256x8192 .f32) : FVec Ideal S1x256x1 .f32 :=
  broadcastInDim S1x256x1 ![1] bcast_S256_S1x256x1_1
    (Host.reduceAdd y (constant S_ .f32 0x00000000#32) reducesTo_S4x256x8192_S256_d0_2 h_S_)
def means (y : FVec Ideal S4x256x8192 .f32) : FVec Ideal S1x256x1 .f32 :=
  Host.divf (sums y) (broadcastInDim S1x256x1 ![] bcast_S_S1x256x1 (constant S_ .f32 0x47000000#32))
def centred (y : FVec Ideal S4x256x8192 .f32) : FVec Ideal S4x256x8192 .f32 :=
  subf y (broadcastInDim S4x256x8192 ![0, 1, 2] bcast_S1x256x1_S4x256x8192_0_1_2 (means y))
def divisor : FVec Ideal S_ .f32 := subf (constant S_ .f32 0x47000000#32) (sitofp .f32 (constantI S_ 32 0#32))
def variances (y : FVec Ideal S4x256x8192 .f32) : FVec Ideal S1x256x1 .f32 :=
  select (broadcastInDim S1x256x1 ![] bcast_S_S1x256x1 (cmpf .ogt divisor (constant S_ .f32 0x00000000#32)))
    (Host.divf (sums (mulf (centred y) (centred y))) (broadcastInDim S1x256x1 ![] bcast_S_S1x256x1 divisor))
    (broadcastInDim S1x256x1 ![] bcast_S_S1x256x1 (id (constant S_ .f32 0x7FC00000#32)))

/-- The normalised result. -/
def result (y : FVec Ideal S4x256x8192 .f32) (g b : FVec Ideal S256 .f32) : FVec Ideal S4x256x8192 .f32 :=
  maximumf
    (addf
      (mulf
        (Host.divf (centred y)
          (broadcastInDim S4x256x8192 ![0, 1, 2] bcast_S1x256x1_S4x256x8192_0_1_2
            (Host.sqrt (addf (variances y) (broadcastInDim S1x256x1 ![] bcast_S_S1x256x1 (constant S_ .f32 0x3727C5AC#32))))))
        (broadcastInDim S4x256x8192 ![0, 1, 2] bcast_S1x256x1_S4x256x8192_0_1_2
          (broadcastInDim S1x256x1 ![1] bcast_S256_S1x256x1_1 g)))
      (broadcastInDim S4x256x8192 ![0, 1, 2] bcast_S1x256x1_S4x256x8192_0_1_2
        (broadcastInDim S1x256x1 ![1] bcast_S256_S1x256x1_1 b)))
    (broadcastInDim S4x256x8192 ![] bcast_S_S4x256x8192 (constant S_ .f32 0x00000000#32))

/-- The reference as a function of its arguments. -/
def features (p1 : FVec Ideal S4x8192x3 .f32) (p2 : FVec Ideal S4x2048x3 .f32) (f1 : FVec Ideal S4x128x8192 .f32)
    (f2 : FVec Ideal S4x256x2048 .f32) (w : FVec Ideal S256x384 .f32) : FVec Ideal S4x256x8192 .f32 :=
  convolution (interpolated (gathered f2 (wrapped (column (nearIdx (negDists p1 p2))))) (shares (invs (nearVals (negDists p1 p2))))) f1 w

/-- The run's result is the named stages. -/
theorem run_result_eq (m : (ℓ : Loc nD τ sig) → Buf (Elt Ideal) ℓ) (c : Dev nD) :
    Cert.ReferenceIdeal.Value.res_main_v57 (F := Ideal) m c
      = result (features (m ((c : Thread nD τ).loc main_arg0)) (m ((c : Thread nD τ).loc main_arg1)) (m ((c : Thread nD τ).loc main_arg2))
          (m ((c : Thread nD τ).loc main_arg3)) (m ((c : Thread nD τ).loc main_arg4)))
        (m ((c : Thread nD τ).loc main_arg5)) (m ((c : Thread nD τ).loc main_arg6)) := rfl

end Cert.Proof.Ref

end
-- ==== Proof.Distances.lean ====
/-
  The reference's nearest places and their weights, at an element.
-/
module

public import proofs.«01_k».proof.Proof.Composed
public import Idealize.ShloMosaic.Lib.Pointwise

@[expose] public section

set_option maxRecDepth 16384

noncomputable section

namespace Cert.Proof.Ref

open Idealize.ShloMosaic Cert.ReferenceIdeal Cert.ReferenceIdeal.Gen

theorem negDists_apply (p1 : FVec Ideal S4x8192x3 .f32) (p2 : FVec Ideal S4x2048x3 .f32) (b : Fin 4) (n : Fin 8192) (j : Fin 2048) :
    negDists p1 p2 (ix3 b n j) = negDist clampBits (distOf p1 p2 b n j) := by
  pointwise [negDists]
  rfl

theorem invs_apply (v : FVec Ideal S4x8192x3 .f32) (i) : invs v i = Ideal.div 1 (-(v i) + distEps) := by
  pointwise [invs]
  rfl

theorem shares_apply (w : FVec Ideal S4x8192x3 .f32) (b : Fin 4) (n : Fin 8192) (k : Fin 3) :
    shares w (ix3 b n k) = Ideal.div (w (ix3 b n k)) (∑ k', w (ix3 b n k')) := by
  pointwise [shares]

end Cert.Proof.Ref

end
-- ==== Proof.PreApart.lean ====
/-
  The precondition: the four nearest distances of every query are strictly ordered, and the scale is finite.
-/
module

public import proofs.«01_k».proof.Proof.Gen.Pre_apart
public import proofs.«01_k».proof.Proof.Distances
public import Idealize.ShloMosaic.Lib.Pointwise
public import Idealize.ShloMosaic.Lib.ReduceAll
public import Idealize.ShloMosaic.Lib.WordCmp

@[expose] public section

set_option maxRecDepth 16384

noncomputable section

namespace Cert.Proof

open Idealize.ShloMosaic Cert.Pre_apart Cert.Pre_apart.Gen

/-- The four greatest negated distances. -/
def fourVals (x : FVec Ideal S4x8192x2048 .f32) : FVec Ideal S4x8192x4 .f32 :=
  (Host.topK S4x8192x4 2 (FloatOps.cmpfTotal .gt) x Facts.sliceFits_S4x8192x2048_S4x8192x4).1

theorem fourVals_apply (p1 : FVec Ideal S4x8192x3 .f32) (p2 : FVec Ideal S4x2048x3 .f32) (b : Fin 4) (n : Fin 8192) (k : Fin 4) :
    fourVals (Ref.negDists p1 p2) (ix3 b n k) = negDist clampBits (distOf p1 p2 b n
      (ranked (fun j => negDist clampBits (distOf p1 p2 b n j)) (k.castLE four_le))) := by
  refine ((topK_apply (Ref.negDists p1 p2) Facts.sliceFits_S4x8192x2048_S4x8192x4 four_le b n k).1.trans
    (Ref.negDists_apply p1 p2 b n _)).trans ?_
  rw [show (fun j => Ref.negDists p1 p2 (ix3 b n j)) = fun j => negDist clampBits (distOf p1 p2 b n j) from
    funext fun j => Ref.negDists_apply p1 p2 b n j]

/-- Each next one less than the one before it. -/
def descending (v : FVec Ideal S4x8192x4 .f32) : IVec S4x8192x3 1 :=
  cmpf .olt (extractStridedSlice S4x8192x3 ![0, 0, 1] v Facts.slices_S4x8192x4_S4x8192x3_0_0_1)
    (extractStridedSlice S4x8192x3 ![0, 0, 0] v Facts.slices_S4x8192x4_S4x8192x3_0_0_0)

/-- Each scale finite. -/
def finite (g : FVec Ideal S256 .f32) : IVec S256 1 :=
  cmpf .olt (Host.absf g) (broadcastInDim S256 ![] Facts.bcast_S_S256 (constant S_ .f32 0x7F800000#32))

theorem fn_eq (a0 : FVec Ideal S4x8192x3 .f32) (a1 : FVec Ideal S4x2048x3 .f32) (a2 : FVec Ideal S4x128x8192 .f32)
    (a3 : FVec Ideal S4x256x2048 .f32) (a4 : FVec Ideal S256x384 .f32) (a5 a6 : FVec Ideal S256 .f32) :
    fn a0 a1 a2 a3 a4 a5 a6
      = andi (Host.reduce IntOp.andi (descending (fourVals (Ref.negDists a0 a1))) (constantI S_ 1 1#1)
          Facts.reducesTo_S4x8192x3_S_d0_1_2 Facts.h_S_)
        (Host.reduce IntOp.andi (finite a5) (constantI S_ 1 1#1) Facts.reducesTo_S256_S_d0 Facts.h_S_) := rfl

theorem descending_apply (v : FVec Ideal S4x8192x4 .f32) (b : Fin 4) (n : Fin 8192) (k : Fin 3) :
    descending v (ix3 b n k) = 1#1 ↔ (v (ix3 b n k.succ) : EReal) < v (ix3 b n k.castSucc) := by
  pointwise [descending]
  rw [WordCmp.ofBool_eq_one_iff, decide_eq_true_iff]
  have e : (⟨1 + k.val, by have := k.isLt; omega⟩ : Fin 4) = k.succ := Fin.ext (Nat.add_comm 1 _)
  rw [e]
  rfl

theorem finite_apply (g : FVec Ideal S256 .f32) (o : Fin 256) :
    finite g (ix1 o) = 1#1 → ∃ r : ℝ, (g (ix1 o) : EReal) = r := by
  pointwise [finite]
  rw [WordCmp.ofBool_eq_one_iff, decide_eq_true_iff]
  intro h
  have h' : max (g (ix1 o) : EReal) (-(g (ix1 o))) < ⊤ := lt_of_lt_of_le h le_top
  have ht : (g (ix1 o) : EReal) ≠ ⊤ := (lt_of_le_of_lt (le_max_left _ _) h').ne
  have hb : (g (ix1 o) : EReal) ≠ ⊥ := fun e => by
    rw [e] at h'
    exact absurd h' (by simp)
  exact ⟨_, (EReal.coe_toReal ht hb).symm⟩

theorem apart_of_fn (a0 : FVec Ideal S4x8192x3 .f32) (a1 : FVec Ideal S4x2048x3 .f32) (a2 : FVec Ideal S4x128x8192 .f32)
    (a3 : FVec Ideal S4x256x2048 .f32) (a4 : FVec Ideal S256x384 .f32) (a5 a6 : FVec Ideal S256 .f32)
    (h : fn a0 a1 a2 a3 a4 a5 a6 = fun _ => 1#1) :
    (∀ b n, Apart clampBits (distOf a0 a1 b n) four_le) ∧ ∀ o : Fin 256, ∃ r : ℝ, (a5 (ix1 o) : EReal) = r := by
  rw [fn_eq] at h
  obtain ⟨h1, h2⟩ := IntOp.andi_eq_one.mp (congrFun h fun k => k.elim0)
  refine ⟨fun b n k => ?_, fun o => finite_apply a5 o (Host.reduce_andi_all _ _ _ _ _ h2 _)⟩
  have h3 := (descending_apply _ b n k).mp (Host.reduce_andi_all _ _ _ _ _ h1 _)
  rw [fourVals_apply, fourVals_apply] at h3
  exact h3

end Cert.Proof

end
-- ==== Proof.Gather.lean ====
/-
  The reference's gathered and interpolated features, at an element.
-/
module

public import proofs.«01_k».proof.Proof.Distances
public import Idealize.ShloMosaic.Lib.Pointwise
public import Idealize.ShloMosaic.Lib.ReduceAll
public import Idealize.ShloMosaic.Lib.WordCmp

@[expose] public section

set_option maxRecDepth 16384

noncomputable section

namespace Cert.Proof.Ref

open Idealize.ShloMosaic Cert.ReferenceIdeal Cert.ReferenceIdeal.Gen

/-- The row of the gathered table that belongs to the `k`-th nearest place of query `n`. -/
def row (n : Fin 8192) (k : Fin 3) : Fin 24576 := ⟨n.val * 3 + k.val, by have := n.isLt; have := k.isLt; omega⟩

theorem column_apply (ix : IVec S4x8192x3 32) (b : Fin 4) (n : Fin 8192) (k : Fin 3) :
    column ix (ix3 b (row n k) 0) = ix (ix3 b n k) := by
  pointwise [column]
  have hk := k.isLt
  rw [show (⟨(row n k).val / 3, by have := (row n k).isLt; omega⟩ : Fin 8192) = n from Fin.ext (by show (n.val * 3 + k.val) / 3 = n.val; omega),
    show (⟨(row n k).val % 3, by omega⟩ : Fin 3) = k from Fin.ext (by show (n.val * 3 + k.val) % 3 = k.val; omega)]

theorem wrapped_apply (ix : IVec S4x24576x1 32) (b : Fin 4) (p : Fin 24576) (v : ℕ) (hv : v < 2048)
    (h : ix (ix3 b p 0) = BitVec.ofNat 32 v) : wrapped ix (ix3 b p 0) = BitVec.ofNat 32 v := by
  pointwise [wrapped]
  rw [h, WordCmp.cmpi_slt_zero, BitVec.toNat_ofNat, Nat.mod_eq_of_lt (by omega), decide_eq_false (by omega)]
  rfl

theorem inside_apply (ix : IVec S4x24576x1 32) (h : ∀ b p, ∃ v < 2048, ix (ix3 b p 0) = BitVec.ofNat 32 v) (b : Fin 4) (p : Fin 24576) :
    inside ix (ix2 b p) = 1#1 := by
  refine Host.reduce_andi_one _ _ _ _ _ rfl fun i => ?_
  obtain ⟨b, p, z, rfl⟩ : ∃ b p z, i = ix3 b p z := ⟨_, _, _, eq_ix3 i⟩
  obtain rfl : z = 0 := Subsingleton.elim _ _
  obtain ⟨v, hv, e⟩ := h b p
  pointwise
  rw [e]
  have ht : (BitVec.ofNat 32 v).toInt = v := WordCmp.toInt_ofNat_of_lt (by omega)
  refine IntOp.andi_eq_one.mpr ⟨IntOp.cmpi_sge.mpr ?_, IntOp.cmpi_sle.mpr ?_⟩
  · rw [ht]; exact Int.natCast_nonneg v
  · rw [ht]
    show (v : ℤ) ≤ 2047
    omega

theorem start_place (ix : IVec S4x24576x1 32) (b : Fin 4) (p : Fin 24576) (i : Fin 256) (j : Fin 2048)
    (hj : ix (ix3 b p 0) = BitVec.ofNat 32 j.val) :
    gather_S4x2048x256_S4x24576x1_S4x24576x256_2_1_0_0_1_2_11256.operandIdx (ix3 b p i) ix = ix3 b j i := by
  have hs : gather_S4x2048x256_S4x24576x1_S4x24576x256_2_1_0_0_1_2_11256.siIdx (ix3 b p i) ⟨0, by decide⟩ = ix3 b p 0 := by
    funext a
    match a with
    | ⟨0, _⟩ => rfl
    | ⟨1, _⟩ => rfl
    | ⟨2, _⟩ => rfl
  funext a
  match a with
  | ⟨0, _⟩ => exact Fin.ext (by
      show 0 + b.val + 0 = b.val
      omega)
  | ⟨1, _⟩ => exact Fin.ext (by
      show min (ix (gather_S4x2048x256_S4x24576x1_S4x24576x256_2_1_0_0_1_2_11256.siIdx (ix3 b p i) ⟨0, by decide⟩)).toInt.toNat (2048 - 1)
        + 0 + 0 = j.val
      have := j.isLt
      rw [hs, hj, WordCmp.toInt_ofNat_of_lt (by omega)]
      omega)
  | ⟨2, _⟩ => exact Fin.ext (by
      show 0 + 0 + i.val = i.val
      omega)

theorem gathered_apply (f : FVec Ideal S4x256x2048 .f32) (ix : IVec S4x24576x1 32)
    (h : ∀ b p, ∃ v < 2048, ix (ix3 b p 0) = BitVec.ofNat 32 v) (b : Fin 4) (p : Fin 24576) (i : Fin 256) (j : Fin 2048)
    (hj : ix (ix3 b p 0) = BitVec.ofNat 32 j.val) : gathered f ix (ix3 b p i) = f (ix3 b i j) := by
  pointwise [gathered]
  rw [inside_apply ix h]
  show transpose S4x2048x256 [0, 2, 1] f transposes_S4x256x2048_S4x2048x256_0_2_1
    (gather_S4x2048x256_S4x24576x1_S4x24576x256_2_1_0_0_1_2_11256.operandIdx (ix3 b p i) ix) = _
  rw [start_place ix b p i j hj]
  pointwise

theorem interpolated_apply (g : FVec Ideal S4x24576x256 .f32) (w : FVec Ideal S4x8192x3 .f32) (b : Fin 4) (i : Fin 256) (n : Fin 8192) :
    interpolated g w (ix3 b i n) = ∑ k : Fin 3, (g (ix3 b (row n k) i) * w (ix3 b n k) : EReal) := by
  pointwise [interpolated]
  rfl

end Cert.Proof.Ref

end
-- ==== Proof.BatchNorm.lean ====
/-
  The batch normalisation in one variable: a finite family `y` of extended reals, a finite factor, any offset. The
  kernel's form scales by `g / √(E[y²] − E[y]² + e)` and shifts by `b − E[y]·scale`; the reference's form centres
  first and divides by `√(E[(y − E[y])²] + e)`. They agree for EVERY family, finite or not: where an element is
  infinite both forms are the offset `b`.
-/
module

public import Idealize.ShloMosaic.PureOps.Ideal
public import Idealize.ShloMosaic.PureOps.Ideal.Laws

@[expose] public section

noncomputable section

namespace Cert.Proof

open Idealize.ShloMosaic

/-- A quotient of two reals by a nonzero one is the real quotient. -/
theorem div_coe (a b : ℝ) (hb : b ≠ 0) : Ideal.div (a : EReal) (b : EReal) = ((a / b : ℝ) : EReal) := by
  have h : (b : EReal) ≠ 0 := by exact_mod_cast hb
  rw [Ideal.div, if_neg h, div_eq_mul_inv, EReal.coe_mul, EReal.coe_inv]

/-- The square root of a nonnegative real is the real one. -/
theorem sqrt_coe (a : ℝ) (ha : 0 ≤ a) : Ideal.sqrt (a : EReal) = ((Real.sqrt a : ℝ) : EReal) := by
  show (if a < 0 then (⊥ : EReal) else _) = _
  rw [if_neg (not_lt.mpr ha)]

/-- Any quotient by an infinity is zero. -/
theorem div_top (x : EReal) : Ideal.div x ⊤ = 0 := by
  rw [Ideal.div, if_neg (by simp), EReal.inv_top, mul_zero]

theorem div_bot (x : EReal) : Ideal.div x ⊥ = 0 := by
  rw [Ideal.div, if_neg (by simp), EReal.inv_bot, mul_zero]

section family

variable {ι : Type} [Fintype ι] (y : ι → EReal)

/-- The kernel's form at element `x` of the family. -/
def bnKernel (N e g b x : EReal) : EReal :=
  x * Ideal.div g (Ideal.sqrt (Ideal.div (∑ i, y i * y i) N - Ideal.div (∑ i, y i) N * Ideal.div (∑ i, y i) N + e))
    + (b - Ideal.div (∑ i, y i) N
      * Ideal.div g (Ideal.sqrt (Ideal.div (∑ i, y i * y i) N - Ideal.div (∑ i, y i) N * Ideal.div (∑ i, y i) N + e)))

/-- The reference's form at element `x` of the family. -/
def bnReference (N e g b x : EReal) : EReal :=
  Ideal.div (x - Ideal.div (∑ i, y i) N)
    (Ideal.sqrt (Ideal.div (∑ i, (y i - Ideal.div (∑ j, y j) N) * (y i - Ideal.div (∑ j, y j) N)) N + e)) * g + b

omit [Fintype ι] in
theorem sum_coe (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum with an element `⊥` is `⊥`. -/
theorem sum_of_bot (i : ι) (hi : y i = ⊥) : ∑ j, y j = ⊥ := by
  classical
  rw [← Finset.add_sum_erase _ _ (Finset.mem_univ i), hi, EReal.bot_add]

/-- A sum with an element `⊤` and none `⊥` is `⊤`. -/
theorem sum_of_top (h : ∀ j, y j ≠ ⊥) (i : ι) (hi : y i = ⊤) : ∑ j, y j = ⊤ := by
  classical
  have hb : ∀ s : Finset ι, ∑ j ∈ s, y j ≠ ⊥ := by
    intro s
    induction s using Finset.induction_on with
    | empty => simp
    | insert a s ha ih =>
      rw [Finset.sum_insert ha]
      exact fun hc => (EReal.add_eq_bot_iff.mp hc).elim (h a) ih
  rw [← Finset.add_sum_erase _ _ (Finset.mem_univ i), hi]
  exact EReal.top_add_of_ne_bot (hb _)

/-- The variance's two forms on the reals. -/
theorem variance_eq (f : ι → ℝ) (N : ℝ) (hN : 0 < N) (hc : (Fintype.card ι : ℝ) = N) :
    (∑ i, f i * f i) / N - (∑ i, f i) / N * ((∑ i, f i) / N)
      = (∑ i, (f i - (∑ j, f j) / N) * (f i - (∑ j, f j) / N)) / N := by
  set μ := (∑ j, f j) / N with hμ
  have hS : ∑ j, f j = μ * N := by rw [hμ]; field_simp
  have : ∑ i, (f i - μ) * (f i - μ) = ∑ i, f i * f i - 2 * μ * ∑ i, f i + N * (μ * μ) := by
    rw [Finset.mul_sum, ← Finset.sum_sub_distrib, ← hc, ← nsmul_eq_mul, ← Finset.card_univ, ← Finset.sum_const,
      ← Finset.sum_add_distrib]
    exact Finset.sum_congr rfl fun i _ => by ring
  rw [this, hS]
  field_simp
  ring

/-- Where every element is finite, both forms are the same real affine function. -/
theorem bn_finite (f : ι → ℝ) (N e g : ℝ) (b : EReal) (hN : 0 < N) (hc : (Fintype.card ι : ℝ) = N) (he : 0 < e) (x : ℝ) :
    bnKernel (fun i => (f i : EReal)) N e g b x = bnReference (fun i => (f i : EReal)) N e g b x := by
  unfold bnKernel bnReference
  simp only [← EReal.coe_mul, sum_coe, div_coe _ N hN.ne', ← EReal.coe_sub, ← EReal.coe_add]
  have hv : 0 ≤ (∑ i, (f i - (∑ j, f j) / N) * (f i - (∑ j, f j) / N)) / N :=
    div_nonneg (Finset.sum_nonneg fun i _ => mul_self_nonneg _) hN.le
  rw [variance_eq f N hN hc]
  set v := (∑ i, (f i - (∑ j, f j) / N) * (f i - (∑ j, f j) / N)) / N
  have hs : Real.sqrt (v + e) ≠ 0 := (Real.sqrt_pos.mpr (by linarith)).ne'
  rw [sqrt_coe _ (by linarith), div_coe _ _ hs, div_coe _ _ hs, ← EReal.coe_mul, ← EReal.coe_mul, ← EReal.coe_mul,
    sub_eq_add_neg, add_left_comm, ← EReal.coe_neg, ← EReal.coe_add, add_comm b]
  congr 2
  field_simp
  ring

/-- The square of an infinity is `⊤`. -/
theorem mul_self_of_inf {x : EReal} (h : x = ⊤ ∨ x = ⊥) : x * x = ⊤ := by
  rcases h with rfl | rfl <;> rfl

/-- No square is `⊥`. -/
theorem mul_self_ne_bot (x : EReal) : x * x ≠ ⊥ := by
  induction x with
  | bot => decide
  | top => decide
  | coe r => rw [← EReal.coe_mul]; exact EReal.coe_ne_bot _

theorem div_top_coe (N : ℝ) (hN : 0 < N) : Ideal.div ⊤ (N : EReal) = ⊤ := by
  have h : (N : EReal) ≠ 0 := by exact_mod_cast hN.ne'
  rw [Ideal.div, if_neg h, ← EReal.coe_inv, EReal.top_mul_coe_of_pos (inv_pos.mpr hN)]

theorem div_bot_coe (N : ℝ) (hN : 0 < N) : Ideal.div ⊥ (N : EReal) = ⊥ := by
  have h : (N : EReal) ≠ 0 := by exact_mod_cast hN.ne'
  rw [Ideal.div, if_neg h, ← EReal.coe_inv, EReal.bot_mul_coe_of_pos (inv_pos.mpr hN)]

/-- Where an element is infinite, both forms are the offset. -/
theorem bn_infinite (N e g : ℝ) (b : EReal) (hN : 0 < N) (i : ι) (hi : y i = ⊤ ∨ y i = ⊥) (x : EReal) :
    bnKernel y N e g b x = bnReference y N e g b x := by
  have hQ : Ideal.div (∑ j, y j * y j) (N : EReal) = ⊤ := by
    rw [sum_of_top (fun j => y j * y j) (fun j => mul_self_ne_bot _) i (mul_self_of_inf hi), div_top_coe N hN]
  have hS : Ideal.div (∑ j, y j) (N : EReal) = ⊤ ∨ Ideal.div (∑ j, y j) (N : EReal) = ⊥ := by
    by_cases hb : ∃ j, y j = ⊥
    · obtain ⟨j, hj⟩ := hb
      exact .inr (by rw [sum_of_bot y j hj, div_bot_coe N hN])
    · push Not at hb
      exact .inl (by rw [sum_of_top y hb i (hi.resolve_right (hb i)), div_top_coe N hN])
  have hC : ∀ x : EReal, x - Ideal.div (∑ j, y j) (N : EReal) = ⊤ ∨ x - Ideal.div (∑ j, y j) (N : EReal) = ⊥ := by
    intro x
    rcases hS with h | h <;> rw [h] <;> induction x <;> simp
  have hV : Ideal.div (∑ j, (y j - Ideal.div (∑ k, y k) (N : EReal)) * (y j - Ideal.div (∑ k, y k) (N : EReal))) (N : EReal) = ⊤ := by
    rw [sum_of_top (fun j => (y j - Ideal.div (∑ k, y k) (N : EReal)) * (y j - Ideal.div (∑ k, y k) (N : EReal)))
      (fun j => mul_self_ne_bot _) i (mul_self_of_inf (hC (y i))), div_top_coe N hN]
  unfold bnKernel bnReference
  rw [hQ, hV, mul_self_of_inf hS]
  have h1 : ((⊤ : EReal) - ⊤ + (e : EReal)) = ⊥ := by simp
  have h2 : ((⊤ : EReal) + (e : EReal)) = ⊤ := by simp
  rw [h1, h2, show Ideal.sqrt ⊥ = ⊥ from rfl, show Ideal.sqrt ⊤ = ⊤ from rfl, div_bot, div_top, mul_zero, mul_zero, zero_mul,
    zero_add, zero_add, sub_zero]

/-- The two forms agree on every family of `N` extended reals, at every element of it. -/
theorem bn_eq (N e g : ℝ) (b : EReal) (hN : 0 < N) (hc : (Fintype.card ι : ℝ) = N) (he : 0 < e) (i : ι) :
    bnKernel y N e g b (y i) = bnReference y N e g b (y i) := by
  by_cases h : ∃ j, y j = ⊤ ∨ y j = ⊥
  · obtain ⟨j, hj⟩ := h
    exact bn_infinite y N e g b hN j hj (y i)
  · push Not at h
    have hf : y = fun j => ((y j).toReal : EReal) := funext fun j => (EReal.coe_toReal (h j).1 (h j).2).symm
    rw [hf]
    exact bn_finite (fun j => (y j).toReal) N e g b hN hc he _

end family

end Cert.Proof

end
-- ==== Proof.Reference.lean ====
/-
  The reference's convolution and its normalised result, at an element.
-/
module

public import proofs.«01_k».proof.Proof.Gather
public import proofs.«01_k».proof.Proof.BatchNorm
public import Idealize.ShloMosaic.Lib.Pointwise
public import Idealize.ShloMosaic.Lib.KernelVsHost

@[expose] public section

set_option maxRecDepth 16384

noncomputable section

namespace Cert.Proof.Ref

open Idealize.ShloMosaic Cert.ReferenceIdeal Cert.ReferenceIdeal.Gen

section nearest

variable (p1 : FVec Ideal S4x8192x3 .f32) (p2 : FVec Ideal S4x2048x3 .f32) (b : Fin 4) (n : Fin 8192)

theorem negDists_row : (fun j => negDists p1 p2 (ix3 b n j)) = fun j => negDist clampBits (distOf p1 p2 b n j) :=
  funext fun j => negDists_apply p1 p2 b n j

theorem nearVals_apply (k : Fin 3) : nearVals (negDists p1 p2) (ix3 b n k)
    = negDist clampBits (distOf p1 p2 b n (near (distOf p1 p2 b n) four_le k)) := by
  refine ((topK_apply (negDists p1 p2) sliceFits_S4x8192x2048_S4x8192x3 (by decide) b n k).1.trans
    (negDists_apply p1 p2 b n _)).trans ?_
  rw [negDists_row]
  rfl

theorem nearIdx_apply (k : Fin 3) : nearIdx (negDists p1 p2) (ix3 b n k)
    = BitVec.ofNat 32 (near (distOf p1 p2 b n) four_le k).val := by
  refine (topK_apply (negDists p1 p2) sliceFits_S4x8192x2048_S4x8192x3 (by decide) b n k).2.trans ?_
  rw [negDists_row]
  rfl

theorem invs_near (k : Fin 3) : invs (nearVals (negDists p1 p2)) (ix3 b n k)
    = invDist (distOf p1 p2 b n (near (distOf p1 p2 b n) four_le k)) := by
  rw [invs_apply, nearVals_apply]
  unfold negDist invDist
  rw [neg_neg]

theorem shares_near (k : Fin 3) : shares (invs (nearVals (negDists p1 p2))) (ix3 b n k) = share (distOf p1 p2 b n) four_le k := by
  rw [shares_apply]
  unfold share
  rw [invs_near]
  exact congrArg _ (Finset.sum_congr rfl fun k' _ => invs_near p1 p2 b n k')

/-- The place that the gather reads for the `k`-th nearest point. -/
theorem place_near (k : Fin 3) : wrapped (column (nearIdx (negDists p1 p2))) (ix3 b (row n k) 0)
    = BitVec.ofNat 32 (near (distOf p1 p2 b n) four_le k).val :=
  wrapped_apply _ b _ _ (near _ _ k).isLt ((column_apply _ b n k).trans (nearIdx_apply p1 p2 b n k))

theorem place_lt (p : Fin 24576) : ∃ v < 2048, wrapped (column (nearIdx (negDists p1 p2))) (ix3 b p 0) = BitVec.ofNat 32 v := by
  have hp := p.isLt
  have e : p = row ⟨p.val / 3, by omega⟩ ⟨p.val % 3, by omega⟩ := Fin.ext (by show p.val = p.val / 3 * 3 + p.val % 3; omega)
  rw [e]
  exact ⟨_, Fin.isLt _, place_near p1 p2 b _ _⟩

theorem interpolated_near (f2 : FVec Ideal S4x256x2048 .f32) (i : Fin 256) :
    interpolated (gathered f2 (wrapped (column (nearIdx (negDists p1 p2))))) (shares (invs (nearVals (negDists p1 p2)))) (ix3 b i n)
      = interp (distOf p1 p2 b n) four_le fun j => f2 (ix3 b i j) := by
  rw [interpolated_apply]
  unfold interp
  refine Finset.sum_congr rfl fun k _ => ?_
  rw [shares_near, gathered_apply f2 _ (place_lt p1 p2) b _ i _ (place_near p1 p2 b n k)]

end nearest

theorem convolution_apply (x : FVec Ideal S4x256x8192 .f32) (f : FVec Ideal S4x128x8192 .f32) (w : FVec Ideal S256x384 .f32)
    (b : Fin 4) (o : Fin 256) (n : Fin 8192) : convolution x f w (ix3 b o n)
      = ((∑ i : Fin 256, w (ix2 o (i.castAdd 128)) * x (ix3 b i n)) + ∑ i : Fin 128, w (ix2 o (i.natAdd 256)) * f (ix3 b i n) : EReal) := by
  pointwise [convolution]
  exact congrArg₂ (· + ·) (Finset.sum_congr rfl fun i _ => mul_comm _ _) (Finset.sum_congr rfl fun i _ => mul_comm _ _)

theorem features_apply (p1 : FVec Ideal S4x8192x3 .f32) (p2 : FVec Ideal S4x2048x3 .f32) (f1 : FVec Ideal S4x128x8192 .f32)
    (f2 : FVec Ideal S4x256x2048 .f32) (w : FVec Ideal S256x384 .f32) (b : Fin 4) (o : Fin 256) (n : Fin 8192) :
    features p1 p2 f1 f2 w (ix3 b o n) = convOf p1 p2 f1 f2 w b o n := by
  unfold features
  rw [convolution_apply]
  unfold convOf
  refine congrArg₂ (· + ·) (Finset.sum_congr rfl fun i _ => ?_) rfl
  rw [interpolated_near]

theorem count_eq : count = ((32768 : ℝ) : EReal) := by
  unfold count
  simp [Ideal.ofBits, Ideal.ieee, -EReal.coe_mul]
  norm_num

theorem count_pos : 0 < count := by
  rw [count_eq]
  exact_mod_cast (by norm_num : (0 : ℝ) < 32768)

theorem varEps_eq : ∃ e : ℝ, 0 < e ∧ varEps = (e : EReal) := by
  refine ⟨(1 + 2606508 / 8388608) * 2 ^ (-17 : ℤ), by positivity, ?_⟩
  unfold varEps
  simp [Ideal.ofBits, Ideal.ieee, -EReal.coe_mul]
  norm_num

section normalise

variable (y : FVec Ideal S4x256x8192 .f32)

/-- The indices that a sum over the batches and the queries folds into channel `o`. -/
theorem drop_eq_iff {A B C : ℕ} (h : (⟨3, ![A, B, C]⟩ : Shape).ReducesTo [0, 2] ⟨1, ![B]⟩) (o : Fin B)
    (i : (⟨3, ![A, B, C]⟩ : Shape).Idx) : h.drop i = ix1 o ↔ ∃ k : Fin A × Fin C, ix3 k.1 o k.2 = i := by
  constructor
  · intro e
    refine ⟨(i 0, i 2), ?_⟩
    funext a
    apply Fin.ext
    match a with
    | ⟨0, _⟩ => rfl
    | ⟨1, _⟩ => exact (congrArg Fin.val (congrFun e ⟨0, Nat.one_pos⟩)).symm
    | ⟨2, _⟩ => rfl
  · rintro ⟨k, rfl⟩
    funext b
    apply Fin.ext
    match b with
    | ⟨0, _⟩ => rfl

theorem sum_drop {A B C : ℕ} (h : (⟨3, ![A, B, C]⟩ : Shape).ReducesTo [0, 2] ⟨1, ![B]⟩) (y : (⟨3, ![A, B, C]⟩ : Shape).Idx → EReal)
    (o : Fin B) : ∑ i ∈ Finset.univ.filter (fun i => h.drop i = ix1 o), y i = ∑ b : Fin A, ∑ n : Fin C, y (ix3 b o n) := by
  refine (Finset.sum_filter_eq_sum_of_fiber _ (fun k : Fin A × Fin C => ix3 k.1 o k.2)
    (fun _ _ e => Prod.ext (congrFun e 0) (congrFun e 2)) (drop_eq_iff h o) y).trans ?_
  simp only [Fintype.sum_prod_type]

theorem sums_apply (o : Fin 256) : sums y (ix3 0 o 0) = (∑ b : Fin 4, ∑ n : Fin 8192, y (ix3 b o n) : EReal) := by
  pointwise [sums]
  exact (congrArg (0 + ·) (sum_drop reducesTo_S4x256x8192_S256_d0_2 y o)).trans (zero_add _)

theorem means_apply (o : Fin 256) : means y (ix3 0 o 0) = Ideal.div (sums y (ix3 0 o 0)) count := by
  pointwise [means]
  rfl

theorem centred_apply (b : Fin 4) (o : Fin 256) (n : Fin 8192) : centred y (ix3 b o n) = (y (ix3 b o n) - means y (ix3 0 o 0) : EReal) := by
  pointwise [centred]

theorem divisor_apply (i) : divisor i = count := by
  pointwise [divisor]
  rw [show (FloatOps.sitofp FTy.f32 0#32 : Ideal .f32) = (0 : EReal) from sitofp_zero, sub_zero]
  rfl

theorem variances_apply (o : Fin 256) : variances y (ix3 0 o 0)
    = Ideal.div (∑ b : Fin 4, ∑ n : Fin 8192, (centred y (ix3 b o n) * centred y (ix3 b o n) : EReal)) count := by
  pointwise [variances]
  rw [divisor_apply, if_pos count_pos, sums_apply]
  rfl

theorem result_apply (g s : FVec Ideal S256 .f32) (b : Fin 4) (o : Fin 256) (n : Fin 8192) : result y g s (ix3 b o n)
    = (max (Ideal.div (centred y (ix3 b o n)) (Ideal.sqrt (variances y (ix3 0 o 0) + varEps)) * g (ix1 o) + s (ix1 o)) 0 : EReal) := by
  pointwise [result]
  rfl

end normalise

/-- The channel of sum and sum of squares is normalised alike by the mean and the variance of the centred elements. -/
theorem normed_eq (Y : Fin 4 → Fin 8192 → EReal) (g s : EReal) (hg : ∃ r : ℝ, g = r) (b : Fin 4) (n : Fin 8192) :
    normed (∑ b, ∑ n, Y b n) (∑ b, ∑ n, Y b n * Y b n) g s (Y b n)
      = Ideal.div (Y b n - Ideal.div (∑ b, ∑ n, Y b n) count)
          (Ideal.sqrt (Ideal.div (∑ b, ∑ n, (Y b n - Ideal.div (∑ b, ∑ n, Y b n) count) * (Y b n - Ideal.div (∑ b, ∑ n, Y b n) count)) count
            + varEps)) * g + s := by
  obtain ⟨r, rfl⟩ := hg
  obtain ⟨e, he, hv⟩ := varEps_eq
  have h := bn_eq (fun p : Fin 4 × Fin 8192 => Y p.1 p.2) 32768 e r s (by norm_num)
    (by simp only [Fintype.card_prod, Fintype.card_fin]; norm_num) he (b, n)
  unfold bnKernel bnReference at h
  simp only [Fintype.sum_prod_type, ← count_eq, ← hv] at h
  exact h

/-- The reference's result at an element, in the kernel's form. -/
theorem reference_value (p1 : FVec Ideal S4x8192x3 .f32) (p2 : FVec Ideal S4x2048x3 .f32) (f1 : FVec Ideal S4x128x8192 .f32)
    (f2 : FVec Ideal S4x256x2048 .f32) (w : FVec Ideal S256x384 .f32) (g s : FVec Ideal S256 .f32)
    (hg : ∀ o : Fin 256, ∃ r : ℝ, (g (ix1 o) : EReal) = r) (b : Fin 4) (o : Fin 256) (n : Fin 8192) :
    result (features p1 p2 f1 f2 w) g s (ix3 b o n)
      = (max (normed (∑ b, ∑ n, convOf p1 p2 f1 f2 w b o n) (∑ b, ∑ n, convOf p1 p2 f1 f2 w b o n * convOf p1 p2 f1 f2 w b o n)
          (g (ix1 o)) (s (ix1 o)) (convOf p1 p2 f1 f2 w b o n)) 0 : EReal) := by
  rw [result_apply, variances_apply, normed_eq (fun b n => convOf p1 p2 f1 f2 w b o n) _ _ (hg o)]
  simp only [centred_apply, means_apply, sums_apply, features_apply]

end Cert.Proof.Ref

end
-- ==== Proof.Equal.lean ====
/-
  The kernel and the reference end with the same array.
-/
module

public import proofs.«01_k».proof.Defs
public import proofs.«01_k».proof.Proof.KernelRun
public import proofs.«01_k».proof.Proof.KernelValue
public import proofs.«01_k».proof.Proof.PreApart
public import proofs.«01_k».proof.Proof.Reference

@[expose] public section

noncomputable section

namespace Cert.Proof

open Idealize.ShloMosaic Idealize.SL.Sem Idealize.ShloMosaic.TcCoe

/-- From memories that agree on the arguments, of which the precondition holds, the two results are equal. -/
theorem values_eq (m : (ℓ : Loc Cert.KernelIdeal.nD Cert.KernelIdeal.τ Cert.KernelIdeal.sig) → Buf (Elt Ideal) ℓ)
    (g : Dev Cert.KernelIdeal.nD → PrngReg) (hpre : Cert.Pre_KernelIdeal m) (c : Dev Cert.KernelIdeal.nD) :
    Ref.result (Ref.features (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4)))
        (m ((c : Thread Cert.KernelIdeal.nD Cert.KernelIdeal.τ).loc Cert.KernelIdeal.main_arg5))
        (m ((c : Thread Cert.KernelIdeal.nD Cert.KernelIdeal.τ).loc Cert.KernelIdeal.main_arg6))
      = (Cert.KernelIdeal.Gen.dat1 (Cert.KernelIdeal.Gen.V7 m g) c).arrAt 4 Cert.KernelIdeal.cfg1.N := by
  obtain ⟨hapart, hfinite⟩ := apart_of_fn _ _ _ _ _ _ _ (hpre c)
  funext i
  obtain ⟨b, o, n, rfl⟩ : ∃ b o n, i = ix3 b o n := ⟨_, _, _, eq_ix3 i⟩
  exact (Ref.reference_value _ _ _ _ _ _ _ hfinite b o n).trans (kernel_value m g c hapart b o n).symm

theorem algebraic : Cert.algebraic_KernelIdeal_ReferenceIdeal := by
  intro m g m' g' hpre hagree
  refine ⟨_, Cert.KernelIdeal.Gen.run_result m g, ?_⟩
  refine (θ_run Cert.ReferenceIdeal.defs _ _).mono (fun r h c => ⟨(h c).1.trans ?_, (h c).2⟩) (Cert.ReferenceIdeal.Value.run m' g')
  obtain ⟨h0, h1, h2, h3, h4, h5, h6⟩ := hagree c
  rw [Ref.run_result_eq, h0, h1, h2, h3, h4, h5, h6]
  exact values_eq m g hpre c

end Cert.Proof

end
-- ==== Proof.lean ====
/-
  The certificate: every claim, from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_apart
public import proofs.«01_k».proof.Proof.Frames
public import proofs.«01_k».proof.Proof.Equal

@[expose] public section

noncomputable section

namespace Cert.Proof

/-- All claims of the certificate. -/
theorem claim : Cert.Claim :=
  ⟨Cert.Kernel.Gen.facts, Cert.KernelIdeal.Gen.facts, Cert.ReferenceIdeal.Gen.facts, Cert.Pre_apart.Gen.facts,
    frame_kernel, frame_kernel_apart, frame_ideal, frame_reference, frame_reference_apart, trivial, algebraic⟩

end Cert.Proof

end
